-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x2048x512 : Shape := ⟨3, ![16, 2048, 512]⟩
abbrev S16 : Shape := ⟨1, ![16]⟩
abbrev S1024x512 : Shape := ⟨2, ![1024, 512]⟩
abbrev S1024x256 : Shape := ⟨2, ![1024, 256]⟩
abbrev S1024 : Shape := ⟨1, ![1024]⟩
abbrev S2048x16x512 : Shape := ⟨3, ![2048, 16, 512]⟩
abbrev S512x1024 : Shape := ⟨2, ![512, 1024]⟩
abbrev S256x1024 : Shape := ⟨2, ![256, 1024]⟩
abbrev S1x1024 : Shape := ⟨2, ![1, 1024]⟩
abbrev S16x1 : Shape := ⟨2, ![16, 1]⟩
abbrev S16x256 : Shape := ⟨2, ![16, 256]⟩
abbrev S16x1024 : Shape := ⟨2, ![16, 1024]⟩
abbrev S64x16x512 : Shape := ⟨3, ![64, 16, 512]⟩
abbrev S1024x1024 : Shape := ⟨2, ![1024, 1024]⟩

abbrev nBuf : Space → Nat
  | .hbm => 27
  | .vmem => 15
  | .smem => 0
  | _ => 0

abbrev bufTy : (tb : Table) → Fin (tcTables nBuf tb) → BufTy
  | .hbm, ⟨0, _⟩ => ⟨S16x2048x512, .f32⟩
  | .hbm, ⟨1, _⟩ => ⟨S16, .i32⟩
  | .hbm, ⟨2, _⟩ => ⟨S1024x512, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S1024x512, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S16x2048x512, .bf16⟩
  | .hbm, ⟨11, _⟩ => ⟨S2048x16x512, .bf16⟩
  | .hbm, ⟨12, _⟩ => ⟨S512x1024, .f32⟩
  | .hbm, ⟨13, _⟩ => ⟨S512x1024, .bf16⟩
  | .hbm, ⟨14, _⟩ => ⟨S512x1024, .f32⟩
  | .hbm, ⟨15, _⟩ => ⟨S512x1024, .bf16⟩
  | .hbm, ⟨16, _⟩ => ⟨S256x1024, .f32⟩
  | .hbm, ⟨17, _⟩ => ⟨S256x1024, .bf16⟩
  | .hbm, ⟨18, _⟩ => ⟨S256x1024, .f32⟩
  | .hbm, ⟨19, _⟩ => ⟨S256x1024, .bf16⟩
  | .hbm, ⟨20, _⟩ => ⟨S1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S16x1, .i32⟩
  | .hbm, ⟨25, _⟩ => ⟨S16x256, .i32⟩
  | .hbm, ⟨26, _⟩ => ⟨S16x1024, .f32⟩
  | .local _ .vmem, ⟨0, _⟩ => ⟨S64x16x512, .bf16⟩
  | .local _ .vmem, ⟨1, _⟩ => ⟨S64x16x512, .bf16⟩
  | .local _ .vmem, ⟨2, _⟩ => ⟨S64x16x512, .bf16⟩
  | .local _ .vmem, ⟨3, _⟩ => ⟨S64x16x512, .bf16⟩
  | .local _ .vmem, ⟨4, _⟩ => ⟨S512x1024, .bf16⟩
  | .local _ .vmem, ⟨5, _⟩ => ⟨S512x1024, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S16x256, .i32⟩
  | .local _ .vmem, ⟨11, _⟩ => ⟨S16x1024, .f32⟩
  | .local _ .vmem, ⟨12, _⟩ => ⟨S1024x1024, .f32⟩
  | .local _ .vmem, ⟨13, _⟩ => ⟨S1024x1024, .f32⟩
  | .local _ .vmem, ⟨14, _⟩ => ⟨S16x1024, .f32⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_31 : BitVec 32 := 0#32
  let c4_i32 : BitVec 32 := 4#32
  let v42 : BitVec 32 := Scalar.addi c0_i32_31 c4_i32
  let c1_i32 : BitVec 32 := 1#32
  ⟨c0_i32_31, v42, c1_i32⟩
def k0_off1 (k0_t1 : Fin k0_t1_loop.trips) (c0_i32_37 : BitVec 32) : Fin 2 → Nat :=
  let c0_i32_31 : BitVec 32 := 0#32
  let c1_i32 : BitVec 32 := 1#32
  let arg14 : BitVec 32 := Scf.iv c0_i32_31 c1_i32 k0_t1
  let c16_i32 : BitVec 32 := 16#32
  let v51 : BitVec 32 := Scalar.muli arg14 c16_i32
  let v52 : BitVec 32 := Scalar.addi v51 c0_i32_37
  let c16_i32_38 : BitVec 32 := 16#32
  let v53 : BitVec 32 := Scalar.muli v52 c16_i32_38
  let v54 : Index := Scalar.indexCast v53
  let c0_39 : Index := 0#32
  ![v54.toNat, 0]
def k0_off2 (k0_t1 : Fin k0_t1_loop.trips) (c0_i32_41 : BitVec 32) : Fin 2 → Nat :=
  let c63_i32 : BitVec 32 := 63#32
  let c0_i32_31 : BitVec 32 := 0#32
  let c1_i32 : BitVec 32 := 1#32
  let arg14 : BitVec 32 := Scf.iv c0_i32_31 c1_i32 k0_t1
  let c16_i32 : BitVec 32 := 16#32
  let v51 : BitVec 32 := Scalar.muli arg14 c16_i32
  let v77 : BitVec 32 := Scalar.addi v51 c0_i32_41
  let v78 : BitVec 32 := Scalar.subi c63_i32 v77
  let c16_i32_42 : BitVec 32 := 16#32
  let v79 : BitVec 32 := Scalar.muli v78 c16_i32_42
  let v80 : Index := Scalar.indexCast v79
  let c0_43 : Index := 0#32
  ![v80.toNat, 0]
def k0_cond2 (i : grid0.Coords) : BitVec 1 :=
  let arg0 : BitVec 32 := BitVec.ofNat 32 (i 0).val
  let c31_i32_35 : BitVec 32 := 31#32
  let v48 : BitVec 1 := Scalar.cmpi .eq arg0 c31_i32_35
  let v49 : BitVec 32 := Scalar.extui v48
  let c0_i32_36 : BitVec 32 := 0#32
  let v50 : BitVec 1 := Scalar.cmpi .ne v49 c0_i32_36
  v50

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x256 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S16x2048x512 : Shape := ⟨3, ![16, 2048, 512]⟩
abbrev S16 : Shape := ⟨1, ![16]⟩
abbrev S1024x512 : Shape := ⟨2, ![1024, 512]⟩
abbrev S1024x256 : Shape := ⟨2, ![1024, 256]⟩
abbrev S1024 : Shape := ⟨1, ![1024]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S2048x16x512 : Shape := ⟨3, ![2048, 16, 512]⟩
abbrev S2048x16 : Shape := ⟨2, ![2048, 16]⟩
abbrev S2048x16x1 : Shape := ⟨3, ![2048, 16, 1]⟩
abbrev S_ : Shape := ⟨0, ![]⟩
abbrev S16x256 : Shape := ⟨2, ![16, 256]⟩
abbrev S2048x16x256 : Shape := ⟨3, ![2048, 16, 256]⟩
abbrev S1x16x512 : Shape := ⟨3, ![1, 16, 512]⟩
abbrev S16x512 : Shape := ⟨2, ![16, 512]⟩
abbrev S1x16x1 : Shape := ⟨3, ![1, 16, 1]⟩
abbrev S512x1024 : Shape := ⟨2, ![512, 1024]⟩
abbrev S16x1024 : Shape := ⟨2, ![16, 1024]⟩
abbrev S256x1024 : Shape := ⟨2, ![256, 1024]⟩
abbrev S1x1024 : Shape := ⟨2, ![1, 1024]⟩
abbrev S1x16x256 : Shape := ⟨3, ![1, 16, 256]⟩

abbrev nBuf : Space → Nat
  | .hbm => 197
  | .vmem => 0
  | .smem => 0
  | _ => 0

abbrev hbmTy0_0 (i : Nat) : BufTy := match i % 128 with
  | 0 => ⟨S16x2048x512, .f32⟩
  | 1 => ⟨S16, .i32⟩
  | 2 => ⟨S1024x512, .f32⟩
  | 3 => ⟨S1024x256, .f32⟩
  | 4 => ⟨S1024, .f32⟩
  | 5 => ⟨S1024, .f32⟩
  | 6 => ⟨S1024x512, .f32⟩
  | 7 => ⟨S1024x256, .f32⟩
  | 8 => ⟨S1024, .f32⟩
  | 9 => ⟨S1024, .f32⟩
  | 10 => ⟨S2048, .i32⟩
  | 11 => ⟨S1x2048, .i32⟩
  | 12 => ⟨S16x1, .i32⟩
  | 13 => ⟨S16x2048, .i32⟩
  | 14 => ⟨S16x2048, .i32⟩
  | 15 => ⟨S16x2048, .i1⟩
  | 16 => ⟨S2048x16x512, .f32⟩
  | 17 => ⟨S2048x16, .i1⟩
  | 18 => ⟨S2048x16x1, .i1⟩
  | 19 => ⟨S_, .f32⟩
  | 20 => ⟨S16x256, .f32⟩
  | 21 => ⟨S_, .f32⟩
  | 22 => ⟨S16x256, .f32⟩
  | 23 => ⟨S_, .f32⟩
  | 24 => ⟨S2048x16x256, .f32⟩
  | 25 => ⟨S_, .i32⟩
  | 26 => ⟨S2048x16x512, .f32⟩
  | 27 => ⟨S2048x16x1, .i1⟩
  | 28 => ⟨S1024x512, .f32⟩
  | 29 => ⟨S1024x256, .f32⟩
  | 30 => ⟨S1024, .f32⟩
  | 31 => ⟨S1024, .f32⟩
  | 32 => ⟨S_, .i32⟩
  | 33 => ⟨S16x256, .f32⟩
  | 34 => ⟨S16x256, .f32⟩
  | 35 => ⟨S2048x16x256, .f32⟩
  | 36 => ⟨S_, .i32⟩
  | 37 => ⟨S_, .i1⟩
  | 38 => ⟨S_, .i32⟩
  | 39 => ⟨S_, .i32⟩
  | 40 => ⟨S1x16x512, .f32⟩
  | 41 => ⟨S16x512, .f32⟩
  | 42 => ⟨S_, .i32⟩
  | 43 => ⟨S_, .i32⟩
  | 44 => ⟨S1x16x1, .i1⟩
  | 45 => ⟨S16x1, .i1⟩
  | 46 => ⟨S512x1024, .f32⟩
  | 47 => ⟨S16x1024, .f32⟩
  | 48 => ⟨S256x1024, .f32⟩
  | 49 => ⟨S16x1024, .f32⟩
  | 50 => ⟨S16x1024, .f32⟩
  | 51 => ⟨S1x1024, .f32⟩
  | 52 => ⟨S16x1024, .f32⟩
  | 53 => ⟨S16x1024, .f32⟩
  | 54 => ⟨S1x1024, .f32⟩
  | 55 => ⟨S16x1024, .f32⟩
  | 56 => ⟨S16x1024, .f32⟩
  | 57 => ⟨S16x256, .f32⟩
  | 58 => ⟨S16x256, .f32⟩
  | 59 => ⟨S16x256, .f32⟩
  | 60 => ⟨S16x256, .f32⟩
  | 61 => ⟨S16x256, .f32⟩
  | 62 => ⟨S16x256, .f32⟩
  | 63 => ⟨S_, .f32⟩
  | 64 => ⟨S16x256, .f32⟩
  | 65 => ⟨S16x256, .f32⟩
  | 66 => ⟨S_, .f32⟩
  | 67 => ⟨S16x256, .f32⟩
  | 68 => ⟨S16x256, .f32⟩
  | 69 => ⟨S16x256, .f32⟩
  | 70 => ⟨S16x256, .f32⟩
  | 71 => ⟨S16x256, .f32⟩
  | 72 => ⟨S_, .f32⟩
  | 73 => ⟨S16x256, .f32⟩
  | 74 => ⟨S16x256, .f32⟩
  | 75 => ⟨S_, .f32⟩
  | 76 => ⟨S16x256, .f32⟩
  | 77 => ⟨S16x256, .f32⟩
  | 78 => ⟨S16x256, .f32⟩
  | 79 => ⟨S16x256, .f32⟩
  | 80 => ⟨S16x256, .f32⟩
  | 81 => ⟨S16x256, .f32⟩
  | 82 => ⟨S16x256, .f32⟩
  | 83 => ⟨S_, .f32⟩
  | 84 => ⟨S16x256, .f32⟩
  | 85 => ⟨S16x256, .f32⟩
  | 86 => ⟨S_, .f32⟩
  | 87 => ⟨S16x256, .f32⟩
  | 88 => ⟨S16x256, .f32⟩
  | 89 => ⟨S16x256, .f32⟩
  | 90 => ⟨S16x256, .f32⟩
  | 91 => ⟨S16x256, .i1⟩
  | 92 => ⟨S16x256, .f32⟩
  | 93 => ⟨S16x256, .i1⟩
  | 94 => ⟨S16x256, .f32⟩
  | 95 => ⟨S1x16x256, .f32⟩
  | 96 => ⟨S_, .i32⟩
  | 97 => ⟨S_, .i32⟩
  | 98 => ⟨S2048x16x256, .f32⟩
  | 99 => ⟨S_, .i32⟩
  | 100 => ⟨S_, .i32⟩
  | 101 => ⟨S2048, .i32⟩
  | 102 => ⟨S1x2048, .i32⟩
  | 103 => ⟨S16x1, .i32⟩
  | 104 => ⟨S16x2048, .i32⟩
  | 105 => ⟨S16x2048, .i32⟩
  | 106 => ⟨S16x2048, .i1⟩
  | 107 => ⟨S2048x16x512, .f32⟩
  | 108 => ⟨S2048x16, .i1⟩
  | 109 => ⟨S2048x16x1, .i1⟩
  | 110 => ⟨S_, .f32⟩
  | 111 => ⟨S16x256, .f32⟩
  | 112 => ⟨S_, .f32⟩
  | 113 => ⟨S16x256, .f32⟩
  | 114 => ⟨S_, .f32⟩
  | 115 => ⟨S2048x16x256, .f32⟩
  | 116 => ⟨S_, .i32⟩
  | 117 => ⟨S2048x16x512, .f32⟩
  | 118 => ⟨S2048x16x1, .i1⟩
  | 119 => ⟨S1024x512, .f32⟩
  | 120 => ⟨S1024x256, .f32⟩
  | 121 => ⟨S1024, .f32⟩
  | 122 => ⟨S1024, .f32⟩
  | 123 => ⟨S_, .i32⟩
  | 124 => ⟨S16x256, .f32⟩
  | 125 => ⟨S16x256, .f32⟩
  | 126 => ⟨S2048x16x256, .f32⟩
  | 127 => ⟨S_, .i32⟩
  | _ => ⟨S16x2048x512, .f32⟩

abbrev hbmTy0_1 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x16x512, .f32⟩
  | 8 => ⟨S16x512, .f32⟩
  | 9 => ⟨S_, .i32⟩
  | 10 => ⟨S_, .i32⟩
  | 11 => ⟨S1x16x1, .i1⟩
  | 12 => ⟨S16x1, .i1⟩
  | 13 => ⟨S512x1024, .f32⟩
  | 14 => ⟨S16x1024, .f32⟩
  | 15 => ⟨S256x1024, .f32⟩
  | 16 => ⟨S16x1024, .f32⟩
  | 17 => ⟨S16x1024, .f32⟩
  | 18 => ⟨S1x1024, .f32⟩
  | 19 => ⟨S16x1024, .f32⟩
  | 20 => ⟨S16x1024, .f32⟩
  | 21 => ⟨S1x1024, .f32⟩
  | 22 => ⟨S16x1024, .f32⟩
  | 23 => ⟨S16x1024, .f32⟩
  | 24 => ⟨S16x256, .f32⟩
  | 25 => ⟨S16x256, .f32⟩
  | 26 => ⟨S16x256, .f32⟩
  | 27 => ⟨S16x256, .f32⟩
  | 28 => ⟨S16x256, .f32⟩
  | 29 => ⟨S16x256, .f32⟩
  | 30 => ⟨S_, .f32⟩
  | 31 => ⟨S16x256, .f32⟩
  | 32 => ⟨S16x256, .f32⟩
  | 33 => ⟨S_, .f32⟩
  | 34 => ⟨S16x256, .f32⟩
  | 35 => ⟨S16x256, .f32⟩
  | 36 => ⟨S16x256, .f32⟩
  | 37 => ⟨S16x256, .f32⟩
  | 38 => ⟨S16x256, .f32⟩
  | 39 => ⟨S_, .f32⟩
  | 40 => ⟨S16x256, .f32⟩
  | 41 => ⟨S16x256, .f32⟩
  | 42 => ⟨S_, .f32⟩
  | 43 => ⟨S16x256, .f32⟩
  | 44 => ⟨S16x256, .f32⟩
  | 45 => ⟨S16x256, .f32⟩
  | 46 => ⟨S16x256, .f32⟩
  | 47 => ⟨S16x256, .f32⟩
  | 48 => ⟨S16x256, .f32⟩
  | 49 => ⟨S16x256, .f32⟩
  | 50 => ⟨S_, .f32⟩
  | 51 => ⟨S16x256, .f32⟩
  | 52 => ⟨S16x256, .f32⟩
  | 53 => ⟨S_, .f32⟩
  | 54 => ⟨S16x256, .f32⟩
  | 55 => ⟨S16x256, .f32⟩
  | 56 => ⟨S16x256, .f32⟩
  | 57 => ⟨S16x256, .f32⟩
  | 58 => ⟨S16x256, .i1⟩
  | 59 => ⟨S16x256, .f32⟩
  | 60 => ⟨S16x256, .i1⟩
  | 61 => ⟨S16x256, .f32⟩
  | 62 => ⟨S1x16x256, .f32⟩
  | 63 => ⟨S_, .i32⟩
  | 64 => ⟨S_, .i32⟩
  | 65 => ⟨S2048x16x256, .f32⟩
  | 66 => ⟨S_, .i32⟩
  | 67 => ⟨S_, .i32⟩
  | 68 => ⟨S16x1024, .f32⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_c : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_v12_6 : Ref sig .tc := ⟨.hbm, 32, rfl⟩
abbrev main_v12_7 : Ref sig .tc := ⟨.hbm, 33, rfl⟩
abbrev main_v12_8 : Ref sig .tc := ⟨.hbm, 34, rfl⟩
abbrev main_v12_9 : Ref sig .tc := ⟨.hbm, 35, rfl⟩
abbrev main_while0c_c_15 : Ref sig .tc := ⟨.hbm, 36, rfl⟩
abbrev main_while0c_v27 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v27 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_v0 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_v35 : Ref sig .tc := ⟨.hbm, 52, rfl⟩
abbrev main_while0b_v36 : Ref sig .tc := ⟨.hbm, 53, rfl⟩
abbrev main_while0b_v37 : Ref sig .tc := ⟨.hbm, 54, rfl⟩
abbrev main_while0b_v38 : Ref sig .tc := ⟨.hbm, 55, rfl⟩
abbrev main_while0b_v39 : Ref sig .tc := ⟨.hbm, 56, rfl⟩
abbrev main_while0b_v40 : Ref sig .tc := ⟨.hbm, 57, rfl⟩
abbrev main_while0b_v41 : Ref sig .tc := ⟨.hbm, 58, rfl⟩
abbrev main_while0b_v42 : Ref sig .tc := ⟨.hbm, 59, rfl⟩
abbrev main_while0b_v43 : Ref sig .tc := ⟨.hbm, 60, rfl⟩
abbrev main_while0b_v44 : Ref sig .tc := ⟨.hbm, 61, rfl⟩
abbrev main_while0b_v45 : Ref sig .tc := ⟨.hbm, 62, rfl⟩
abbrev main_while0b_cst_15 : Ref sig .tc := ⟨.hbm, 63, rfl⟩
abbrev main_while0b_v46 : Ref sig .tc := ⟨.hbm, 64, rfl⟩
abbrev main_while0b_v47 : Ref sig .tc := ⟨.hbm, 65, rfl⟩
abbrev main_while0b_cst_16 : Ref sig .tc := ⟨.hbm, 66, rfl⟩
abbrev main_while0b_v48 : Ref sig .tc := ⟨.hbm, 67, rfl⟩
abbrev main_while0b_v49 : Ref sig .tc := ⟨.hbm, 68, rfl⟩
abbrev main_while0b_v50 : Ref sig .tc := ⟨.hbm, 69, rfl⟩
abbrev main_while0b_v51 : Ref sig .tc := ⟨.hbm, 70, rfl⟩
abbrev main_while0b_v52 : Ref sig .tc := ⟨.hbm, 71, rfl⟩
abbrev main_while0b_cst_17 : Ref sig .tc := ⟨.hbm, 72, rfl⟩
abbrev main_while0b_v53 : Ref sig .tc := ⟨.hbm, 73, rfl⟩
abbrev main_while0b_v54 : Ref sig .tc := ⟨.hbm, 74, rfl⟩
abbrev main_while0b_cst_18 : Ref sig .tc := ⟨.hbm, 75, rfl⟩
abbrev main_while0b_v55 : Ref sig .tc := ⟨.hbm, 76, rfl⟩
abbrev main_while0b_v56 : Ref sig .tc := ⟨.hbm, 77, rfl⟩
abbrev main_while0b_v57 : Ref sig .tc := ⟨.hbm, 78, rfl⟩
abbrev main_while0b_v58 : Ref sig .tc := ⟨.hbm, 79, rfl⟩
abbrev main_while0b_v59 : Ref sig .tc := ⟨.hbm, 80, rfl⟩
abbrev main_while0b_v60 : Ref sig .tc := ⟨.hbm, 81, rfl⟩
abbrev main_while0b_v61 : Ref sig .tc := ⟨.hbm, 82, rfl⟩
abbrev main_while0b_cst_19 : Ref sig .tc := ⟨.hbm, 83, rfl⟩
abbrev main_while0b_v62 : Ref sig .tc := ⟨.hbm, 84, rfl⟩
abbrev main_while0b_v63 : Ref sig .tc := ⟨.hbm, 85, rfl⟩
abbrev main_while0b_cst_20 : Ref sig .tc := ⟨.hbm, 86, rfl⟩
abbrev main_while0b_v64 : Ref sig .tc := ⟨.hbm, 87, rfl⟩
abbrev main_while0b_v65 : Ref sig .tc := ⟨.hbm, 88, rfl⟩
abbrev main_while0b_v66 : Ref sig .tc := ⟨.hbm, 89, rfl⟩
abbrev main_while0b_v67 : Ref sig .tc := ⟨.hbm, 90, rfl⟩
abbrev main_while0b_call2_v0 : Ref sig .tc := ⟨.hbm, 91, rfl⟩
abbrev main_while0b_v68 : Ref sig .tc := ⟨.hbm, 92, rfl⟩
abbrev main_while0b_call3_v0 : Ref sig .tc := ⟨.hbm, 93, rfl⟩
abbrev main_while0b_v69 : Ref sig .tc := ⟨.hbm, 94, rfl⟩
abbrev main_while0b_call4_v0 : Ref sig .tc := ⟨.hbm, 95, rfl⟩
abbrev main_while0b_call4_c : Ref sig .tc := ⟨.hbm, 96, rfl⟩
abbrev main_while0b_call4_c_0 : Ref sig .tc := ⟨.hbm, 97, rfl⟩
abbrev main_while0b_v70 : Ref sig .tc := ⟨.hbm, 98, rfl⟩
abbrev main_while0b_c_21 : Ref sig .tc := ⟨.hbm, 99, rfl⟩
abbrev main_while0b_v71 : Ref sig .tc := ⟨.hbm, 100, rfl⟩
abbrev main_v13 : Ref sig .tc := ⟨.hbm, 101, rfl⟩
abbrev main_v14 : Ref sig .tc := ⟨.hbm, 102, rfl⟩
abbrev main_v15 : Ref sig .tc := ⟨.hbm, 103, rfl⟩
abbrev main_v16 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_cst_2 : Ref sig .tc := ⟨.hbm, 110, rfl⟩
abbrev main_v22 : Ref sig .tc := ⟨.hbm, 111, rfl⟩
abbrev main_cst_3 : Ref sig .tc := ⟨.hbm, 112, rfl⟩
abbrev main_v23 : Ref sig .tc := ⟨.hbm, 113, rfl⟩
abbrev main_cst_4 : Ref sig .tc := ⟨.hbm, 114, rfl⟩
abbrev main_v24 : Ref sig .tc := ⟨.hbm, 115, rfl⟩
abbrev main_c_5 : Ref sig .tc := ⟨.hbm, 116, rfl⟩
abbrev main_v25_0 : Ref sig .tc := ⟨.hbm, 117, rfl⟩
abbrev main_v25_1 : Ref sig .tc := ⟨.hbm, 118, rfl⟩
abbrev main_v25_2 : Ref sig .tc := ⟨.hbm, 119, rfl⟩
abbrev main_v25_3 : Ref sig .tc := ⟨.hbm, 120, rfl⟩
abbrev main_v25_4 : Ref sig .tc := ⟨.hbm, 121, rfl⟩
abbrev main_v25_5 : Ref sig .tc := ⟨.hbm, 122, rfl⟩
abbrev main_v25_6 : Ref sig .tc := ⟨.hbm, 123, rfl⟩
abbrev main_v25_7 : Ref sig .tc := ⟨.hbm, 124, rfl⟩
abbrev main_v25_8 : Ref sig .tc := ⟨.hbm, 125, rfl⟩
abbrev main_v25_9 : Ref sig .tc := ⟨.hbm, 126, rfl⟩
abbrev main_while1c_c_15 : Ref sig .tc := ⟨.hbm, 127, rfl⟩
abbrev main_while1c_v27 : Ref sig .tc := ⟨.hbm, 128, rfl⟩
abbrev main_while1b_c_15 : Ref sig .tc := ⟨.hbm, 129, rfl⟩
abbrev main_while1b_v27 : Ref sig .tc := ⟨.hbm, 130, rfl⟩
abbrev main_while1b_c_16 : Ref sig .tc := ⟨.hbm, 131, rfl⟩
abbrev main_while1b_v28 : Ref sig .tc := ⟨.hbm, 132, rfl⟩
abbrev main_while1b_call5_c : Ref sig .tc := ⟨.hbm, 133, rfl⟩
abbrev main_while1b_call5_c_0 : Ref sig .tc := ⟨.hbm, 134, rfl⟩
abbrev main_while1b_call5_v0 : Ref sig .tc := ⟨.hbm, 135, rfl⟩
abbrev main_while1b_v29 : Ref sig .tc := ⟨.hbm, 136, rfl⟩
abbrev main_while1b_call6_c : Ref sig .tc := ⟨.hbm, 137, rfl⟩
abbrev main_while1b_call6_c_0 : Ref sig .tc := ⟨.hbm, 138, rfl⟩
abbrev main_while1b_call6_v0 : Ref sig .tc := ⟨.hbm, 139, rfl⟩
abbrev main_while1b_v30 : Ref sig .tc := ⟨.hbm, 140, rfl⟩
abbrev main_while1b_v31 : Ref sig .tc := ⟨.hbm, 141, rfl⟩
abbrev main_while1b_v32 : Ref sig .tc := ⟨.hbm, 142, rfl⟩
abbrev main_while1b_v33 : Ref sig .tc := ⟨.hbm, 143, rfl⟩
abbrev main_while1b_v34 : Ref sig .tc := ⟨.hbm, 144, rfl⟩
abbrev main_while1b_v35 : Ref sig .tc := ⟨.hbm, 145, rfl⟩
abbrev main_while1b_v36 : Ref sig .tc := ⟨.hbm, 146, rfl⟩
abbrev main_while1b_v37 : Ref sig .tc := ⟨.hbm, 147, rfl⟩
abbrev main_while1b_v38 : Ref sig .tc := ⟨.hbm, 148, rfl⟩
abbrev main_while1b_v39 : Ref sig .tc := ⟨.hbm, 149, rfl⟩
abbrev main_while1b_v40 : Ref sig .tc := ⟨.hbm, 150, rfl⟩
abbrev main_while1b_v41 : Ref sig .tc := ⟨.hbm, 151, rfl⟩
abbrev main_while1b_v42 : Ref sig .tc := ⟨.hbm, 152, rfl⟩
abbrev main_while1b_v43 : Ref sig .tc := ⟨.hbm, 153, rfl⟩
abbrev main_while1b_v44 : Ref sig .tc := ⟨.hbm, 154, rfl⟩
abbrev main_while1b_v45 : Ref sig .tc := ⟨.hbm, 155, rfl⟩
abbrev main_while1b_v46 : Ref sig .tc := ⟨.hbm, 156, rfl⟩
abbrev main_while1b_v47 : Ref sig .tc := ⟨.hbm, 157, rfl⟩
abbrev main_while1b_cst_17 : Ref sig .tc := ⟨.hbm, 158, rfl⟩
abbrev main_while1b_v48 : Ref sig .tc := ⟨.hbm, 159, rfl⟩
abbrev main_while1b_v49 : Ref sig .tc := ⟨.hbm, 160, rfl⟩
abbrev main_while1b_cst_18 : Ref sig .tc := ⟨.hbm, 161, rfl⟩
abbrev main_while1b_v50 : Ref sig .tc := ⟨.hbm, 162, rfl⟩
abbrev main_while1b_v51 : Ref sig .tc := ⟨.hbm, 163, rfl⟩
abbrev main_while1b_v52 : Ref sig .tc := ⟨.hbm, 164, rfl⟩
abbrev main_while1b_v53 : Ref sig .tc := ⟨.hbm, 165, rfl⟩
abbrev main_while1b_v54 : Ref sig .tc := ⟨.hbm, 166, rfl⟩
abbrev main_while1b_cst_19 : Ref sig .tc := ⟨.hbm, 167, rfl⟩
abbrev main_while1b_v55 : Ref sig .tc := ⟨.hbm, 168, rfl⟩
abbrev main_while1b_v56 : Ref sig .tc := ⟨.hbm, 169, rfl⟩
abbrev main_while1b_cst_20 : Ref sig .tc := ⟨.hbm, 170, rfl⟩
abbrev main_while1b_v57 : Ref sig .tc := ⟨.hbm, 171, rfl⟩
abbrev main_while1b_v58 : Ref sig .tc := ⟨.hbm, 172, rfl⟩
abbrev main_while1b_v59 : Ref sig .tc := ⟨.hbm, 173, rfl⟩
abbrev main_while1b_v60 : Ref sig .tc := ⟨.hbm, 174, rfl⟩
abbrev main_while1b_v61 : Ref sig .tc := ⟨.hbm, 175, rfl⟩
abbrev main_while1b_v62 : Ref sig .tc := ⟨.hbm, 176, rfl⟩
abbrev main_while1b_v63 : Ref sig .tc := ⟨.hbm, 177, rfl⟩
abbrev main_while1b_cst_21 : Ref sig .tc := ⟨.hbm, 178, rfl⟩
abbrev main_while1b_v64 : Ref sig .tc := ⟨.hbm, 179, rfl⟩
abbrev main_while1b_v65 : Ref sig .tc := ⟨.hbm, 180, rfl⟩
abbrev main_while1b_cst_22 : Ref sig .tc := ⟨.hbm, 181, rfl⟩
abbrev main_while1b_v66 : Ref sig .tc := ⟨.hbm, 182, rfl⟩
abbrev main_while1b_v67 : Ref sig .tc := ⟨.hbm, 183, rfl⟩
abbrev main_while1b_v68 : Ref sig .tc := ⟨.hbm, 184, rfl⟩
abbrev main_while1b_v69 : Ref sig .tc := ⟨.hbm, 185, rfl⟩
abbrev main_while1b_call7_v0 : Ref sig .tc := ⟨.hbm, 186, rfl⟩
abbrev main_while1b_v70 : Ref sig .tc := ⟨.hbm, 187, rfl⟩
abbrev main_while1b_call8_v0 : Ref sig .tc := ⟨.hbm, 188, rfl⟩
abbrev main_while1b_v71 : Ref sig .tc := ⟨.hbm, 189, rfl⟩
abbrev main_while1b_call9_v0 : Ref sig .tc := ⟨.hbm, 190, rfl⟩
abbrev main_while1b_call9_c : Ref sig .tc := ⟨.hbm, 191, rfl⟩
abbrev main_while1b_call9_c_0 : Ref sig .tc := ⟨.hbm, 192, rfl⟩
abbrev main_while1b_v72 : Ref sig .tc := ⟨.hbm, 193, rfl⟩
abbrev main_while1b_c_23 : Ref sig .tc := ⟨.hbm, 194, rfl⟩
abbrev main_while1b_v73 : Ref sig .tc := ⟨.hbm, 195, rfl⟩
abbrev main_v26 : Ref sig .tc := ⟨.hbm, 196, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.RefOps.lean ====
/- The reference program's host operations as lists: the stretches of its main function and of its two loops' bodies,
   with what each stretch touches and writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.ReferenceIdeal.Two

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]

/-- The operations before the first loop. -/
abbrev preOps : List (HloOp τ sig (Elt F)) :=
  ( StableHlo.nullary main_v0 (iotaInDim S2048 32 0)
  :: StableHlo.unary main_v0 main_v1 (broadcastInDim S1x2048 ![1] bcast_S2048_S1x2048_1 : (⟨S2048, .i32⟩ : BufTy).Contents (Elt F) → (⟨S1x2048, .i32⟩ : BufTy).Contents (Elt F))
  :: StableHlo.unary main_arg1 main_v2 (broadcastInDim S16x1 ![0] bcast_S16_S16x1_0 : (⟨S16, .i32⟩ : BufTy).Contents (Elt F) → (⟨S16x1, .i32⟩ : BufTy).Contents (Elt F))
  :: StableHlo.unary main_v1 main_v3 (broadcastInDim S16x2048 ![0, 1] bcast_S1x2048_S16x2048_0_1 : (⟨S1x2048, .i32⟩ : BufTy).Contents (Elt F) → (⟨S16x2048, .i32⟩ : BufTy).Contents (Elt F))
  :: StableHlo.unary main_v2 main_v4 (broadcastInDim S16x2048 ![0, 1] bcast_S16x1_S16x2048_0_1 : (⟨S16x1, .i32⟩ : BufTy).Contents (Elt F) → (⟨S16x2048, .i32⟩ : BufTy).Contents (Elt F))
  :: StableHlo.binary main_v3 main_v4 main_v5 (cmpi .slt : (⟨S16x2048, .i32⟩ : BufTy).Contents (Elt F) → (⟨S16x2048, .i32⟩ : BufTy).Contents (Elt F) → (⟨S16x2048, .i1⟩ : BufTy).Contents (Elt F))
  :: StableHlo.unary main_arg0 main_v6 ((transpose S2048x16x512 [1, 0, 2] · transposes_S16x2048x512_S2048x16x512_1_0_2) : (⟨S16x2048x512, .f32⟩ : BufTy).Contents (Elt F) → (⟨S2048x16x512, .f32⟩ : BufTy).Contents (Elt F))
  :: StableHlo.unary main_v5 main_v7 ((transpose S2048x16 [1, 0] · transposes_S16x2048_S2048x16_1_0) : (⟨S16x2048, .i1⟩ : BufTy).Contents (Elt F) → (⟨S2048x16, .i1⟩ : BufTy).Contents (Elt F))
  :: StableHlo.unary main_v7 main_v8 (broadcastInDim S2048x16x1 ![0, 1] bcast_S2048x16_S2048x16x1_0_1 : (⟨S2048x16, .i1⟩ : BufTy).Contents (Elt F) → (⟨S2048x16x1, .i1⟩ : BufTy).Contents (Elt F))
  :: StableHlo.nullary main_cst (constant S_ .f32 0x00000000#32)
  :: StableHlo.unary main_cst main_v9 (broadcastInDim S16x256 ![] bcast_S_S16x256 : (⟨S_, .f32⟩ : BufTy).Contents (Elt F) → (⟨S16x256, .f32⟩ : BufTy).Contents (Elt F))
  :: StableHlo.nullary main_cst_0 (constant S_ .f32 0x00000000#32)
  :: StableHlo.unary main_cst_0 main_v10 (broadcastInDim S16x256 ![] bcast_S_S16x256 : (⟨S_, .f32⟩ : BufTy).Contents (Elt F) → (⟨S16x256, .f32⟩ : BufTy).Contents (Elt F))
  :: StableHlo.nullary main_cst_1 (constant S_ .f32 0x00000000#32)
  :: StableHlo.unary main_cst_1 main_v11 (broadcastInDim S2048x16x256 ![] bcast_S_S2048x16x256 : (⟨S_, .f32⟩ : BufTy).Contents (Elt F) → (⟨S2048x16x256, .f32⟩ : BufTy).Contents (Elt F))
  :: StableHlo.nullary main_c (constantI S_ 32 0#32)
  :: StableHlo.unary main_v6 main_v12_0 id
  :: StableHlo.unary main_v8 main_v12_1 id
  :: StableHlo.unary main_arg2 main_v12_2 id
  :: StableHlo.unary main_arg3 main_v12_3 id
  :: StableHlo.unary main_arg4 main_v12_4 id
  :: StableHlo.unary main_arg5 main_v12_5 id
  :: StableHlo.unary main_c main_v12_6 id
  :: StableHlo.unary main_v9 main_v12_7 id
  :: StableHlo.unary main_v10 main_v12_8 id
  :: StableHlo.unary main_v11 main_v12_9 id
  :: [] )
/-- The operations of `preOps` use buffers of the one core. -/
theorem preOps_sub : (preOps : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The operations of `preOps` make no new buffer. -/
theorem preOps_fresh : (preOps : List (HloOp τ sig (Elt F))).Forall fun op => op.fresh = ∅ := forall_fresh_of_map rfl
/-- What `preOps` writes, in order. -/
abbrev preOps_W : List (Ref sig .tc) := [main_v0, main_v1, main_v2, main_v3, main_v4, main_v5, main_v6, main_v7, main_v8, main_cst, main_v9, main_cst_0, main_v10, main_cst_1, main_v11, main_c, main_v12_0, main_v12_1, main_v12_2, main_v12_3, main_v12_4, main_v12_5, main_v12_6, main_v12_7, main_v12_8, main_v12_9]
/-- `preOps` writes only these. -/
theorem preOps_writes : (preOps : List (HloOp τ sig (Elt F))).Forall fun op => op.writes ⊆ (preOps_W.map (Proc.devRef (τ := τ) .tc)).toFinset :=
  forall_writes_sub_of_map rfl

/-- The operations between the two loops. -/
abbrev midOps : List (HloOp τ sig (Elt F)) :=
  ( StableHlo.nullary main_v13 (iotaInDim S2048 32 0)
  :: StableHlo.unary main_v13 main_v14 (broadcastInDim S1x2048 ![1] bcast_S2048_S1x2048_1 : (⟨S2048, .i32⟩ : BufTy).Contents (Elt F) → (⟨S1x2048, .i32⟩ : BufTy).Contents (Elt F))
  :: StableHlo.unary main_arg1 main_v15 (broadcastInDim S16x1 ![0] bcast_S16_S16x1_0 : (⟨S16, .i32⟩ : BufTy).Contents (Elt F) → (⟨S16x1, .i32⟩ : BufTy).Contents (Elt F))
  :: StableHlo.unary main_v14 main_v16 (broadcastInDim S16x2048 ![0, 1] bcast_S1x2048_S16x2048_0_1 : (⟨S1x2048, .i32⟩ : BufTy).Contents (Elt F) → (⟨S16x2048, .i32⟩ : BufTy).Contents (Elt F))
  :: StableHlo.unary main_v15 main_v17 (broadcastInDim S16x2048 ![0, 1] bcast_S16x1_S16x2048_0_1 : (⟨S16x1, .i32⟩ : BufTy).Contents (Elt F) → (⟨S16x2048, .i32⟩ : BufTy).Contents (Elt F))
  :: StableHlo.binary main_v16 main_v17 main_v18 (cmpi .slt : (⟨S16x2048, .i32⟩ : BufTy).Contents (Elt F) → (⟨S16x2048, .i32⟩ : BufTy).Contents (Elt F) → (⟨S16x2048, .i1⟩ : BufTy).Contents (Elt F))
  :: StableHlo.unary main_arg0 main_v19 ((transpose S2048x16x512 [1, 0, 2] · transposes_S16x2048x512_S2048x16x512_1_0_2) : (⟨S16x2048x512, .f32⟩ : BufTy).Contents (Elt F) → (⟨S2048x16x512, .f32⟩ : BufTy).Contents (Elt F))
  :: StableHlo.unary main_v18 main_v20 ((transpose S2048x16 [1, 0] · transposes_S16x2048_S2048x16_1_0) : (⟨S16x2048, .i1⟩ : BufTy).Contents (Elt F) → (⟨S2048x16, .i1⟩ : BufTy).Contents (Elt F))
  :: StableHlo.unary main_v20 main_v21 (broadcastInDim S2048x16x1 ![0, 1] bcast_S2048x16_S2048x16x1_0_1 : (⟨S2048x16, .i1⟩ : BufTy).Contents (Elt F) → (⟨S2048x16x1, .i1⟩ : BufTy).Contents (Elt F))
  :: StableHlo.nullary main_cst_2 (constant S_ .f32 0x00000000#32)
  :: StableHlo.unary main_cst_2 main_v22 (broadcastInDim S16x256 ![] bcast_S_S16x256 : (⟨S_, .f32⟩ : BufTy).Contents (Elt F) → (⟨S16x256, .f32⟩ : BufTy).Contents (Elt F))
  :: StableHlo.nullary main_cst_3 (constant S_ .f32 0x00000000#32)
  :: StableHlo.unary main_cst_3 main_v23 (broadcastInDim S16x256 ![] bcast_S_S16x256 : (⟨S_, .f32⟩ : BufTy).Contents (Elt F) → (⟨S16x256, .f32⟩ : BufTy).Contents (Elt F))
  :: StableHlo.nullary main_cst_4 (constant S_ .f32 0x00000000#32)
  :: StableHlo.unary main_cst_4 main_v24 (broadcastInDim S2048x16x256 ![] bcast_S_S2048x16x256 : (⟨S_, .f32⟩ : BufTy).Contents (Elt F) → (⟨S2048x16x256, .f32⟩ : BufTy).Contents (Elt F))
  :: StableHlo.nullary main_c_5 (constantI S_ 32 0#32)
  :: StableHlo.unary main_v19 main_v25_0 id
  :: StableHlo.unary main_v21 main_v25_1 id
  :: StableHlo.unary main_arg6 main_v25_2 id
  :: StableHlo.unary main_arg7 main_v25_3 id
  :: StableHlo.unary main_arg8 main_v25_4 id
  :: StableHlo.unary main_arg9 main_v25_5 id
  :: StableHlo.unary main_c_5 main_v25_6 id
  :: StableHlo.unary main_v22 main_v25_7 id
  :: StableHlo.unary main_v23 main_v25_8 id
  :: StableHlo.unary main_v24 main_v25_9 id
  :: [] )
/-- The operations of `midOps` use buffers of the one core. -/
theorem midOps_sub : (midOps : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- The operations of `midOps` make no new buffer. -/
theorem midOps_fresh : (midOps : List (HloOp τ sig (Elt F))).Forall fun op => op.fresh = ∅ := forall_fresh_of_map rfl
/-- What `midOps` writes, in order. -/
abbrev midOps_W : List (Ref sig .tc) := [main_v13, main_v14, main_v15, main_v16, main_v17, main_v18, main_v19, main_v20, main_v21, main_cst_2, main_v22, main_cst_3, main_v23, main_cst_4, main_v24, main_c_5, main_v25_0, main_v25_1, main_v25_2, main_v25_3, main_v25_4, main_v25_5, main_v25_6, main_v25_7, main_v25_8, main_v25_9]
/-- `midOps` writes only these. -/
theorem midOps_writes : (midOps : List (HloOp τ sig (Elt F))).Forall fun op => op.writes ⊆ (midOps_W.map (Proc.devRef (τ := τ) .tc)).toFinset :=
  forall_writes_sub_of_map rfl

/-- The operation after the second loop: the four states side by side. -/
abbrev postOps : List (HloOp τ sig (Elt F)) :=
  ( StableHlo.nary ![main_v12_7, main_v12_8, main_v25_7, main_v25_8] main_v26 (fun u => (concatenate S16x1024 1 [⟨S16x256, (u 0 : (⟨S16x256, .f32⟩ : BufTy).Contents (Elt F))⟩, ⟨S16x256, (u 1 : (⟨S16x256, .f32⟩ : BufTy).Contents (Elt F))⟩, ⟨S16x256, (u 2 : (⟨S16x256, .f32⟩ : BufTy).Contents (Elt F))⟩, ⟨S16x256, (u 3 : (⟨S16x256, .f32⟩ : BufTy).Contents (Elt F))⟩] concatenates_S16x256_S16x256_S16x256_S16x256_S16x1024_d1 : (⟨S16x1024, .f32⟩ : BufTy).Contents (Elt F)))
  :: [] )
/-- The operations of `postOps` use buffers of the one core. -/
theorem postOps_sub : (postOps : List (HloOp τ sig (Elt F))).Forall fun op => op.bufs ⊆ tcRefs τ sig :=
  nary_bufs_sub ..
/-- The operations of `postOps` make no new buffer. -/
theorem postOps_fresh : (postOps : List (HloOp τ sig (Elt F))).Forall fun op => op.fresh = ∅ := forall_fresh_of_map rfl
/-- What `postOps` writes, in order. -/
abbrev postOps_W : List (Ref sig .tc) := [main_v26]
/-- `postOps` writes only these. -/
theorem postOps_writes : (postOps : List (HloOp τ sig (Elt F))).Forall fun op => op.writes ⊆ (postOps_W.map (Proc.devRef (τ := τ) .tc)).toFinset :=
  forall_writes_sub_of_map rfl

/-- The row of the inputs at the trip's time. -/
abbrev aRow : List (HloOp τ sig (Elt F)) :=
  ( StableHlo.TRef.nullary (.of main_while0b_call0_c : TRef sig ⟨S_, .i32⟩) (constantI S_ 32 0#32)
  :: StableHlo.TRef.nullary (.of main_while0b_call0_c_0 : TRef sig ⟨S_, .i32⟩) (constantI S_ 32 0#32)
  :: StableHlo.TRef.unaryIndexed (.of main_v12_0 : TRef sig ⟨S2048x16x512, .f32⟩) ![(.of main_v12_6 : TRef sig ⟨S_, .i32⟩), (.of main_while0b_call0_c : TRef sig ⟨S_, .i32⟩), (.of main_while0b_call0_c_0 : TRef sig ⟨S_, .i32⟩)] (.of main_while0b_call0_v0 : TRef sig ⟨S1x16x512, .f32⟩) (fun x i => Host.dynamicSlice S1x16x512 x (fun k => (i k (Shape.Idx.first h_S_)).toInt) sliceFits_S2048x16x512_S1x16x512)
  :: StableHlo.TRef.reshape (.of main_while0b_call0_v0 : TRef sig ⟨S1x16x512, .f32⟩) (.of main_while0b_v27 : TRef sig ⟨S16x512, .f32⟩) (rfl : (.f32 : EltTy) = .f32) shapeCasts_S1x16x512_S16x512
  :: [] )
/-- The operations of `aRow` use buffers of the one core. -/
theorem aRow_sub : (aRow : List (HloOp τ sig (Elt F))).Forall fun op => op.bufs ⊆ tcRefs τ sig :=
  ⟨nullary_bufs_sub .., nullary_bufs_sub .., unaryIndexed_bufs_sub .., reshape_bufs_sub ..⟩
/-- The operations of `aRow` make no new buffer. -/
theorem aRow_fresh : (aRow : List (HloOp τ sig (Elt F))).Forall fun op => op.fresh = ∅ := forall_fresh_of_map rfl
/-- What `aRow` writes, in order. -/
abbrev aRow_W : List (Ref sig .tc) := [main_while0b_call0_c, main_while0b_call0_c_0, main_while0b_call0_v0, main_while0b_v27]
/-- `aRow` writes only these. -/
theorem aRow_writes : (aRow : List (HloOp τ sig (Elt F))).Forall fun op => op.writes ⊆ (aRow_W.map (Proc.devRef (τ := τ) .tc)).toFinset :=
  forall_writes_sub_of_map rfl

/-- The mask at the trip's time. -/
abbrev aValid : List (HloOp τ sig (Elt F)) :=
  ( StableHlo.TRef.nullary (.of main_while0b_call1_c : TRef sig ⟨S_, .i32⟩) (constantI S_ 32 0#32)
  :: StableHlo.TRef.nullary (.of main_while0b_call1_c_0 : TRef sig ⟨S_, .i32⟩) (constantI S_ 32 0#32)
  :: StableHlo.TRef.unaryIndexed (.of main_v12_1 : TRef sig ⟨S2048x16x1, .i1⟩) ![(.of main_v12_6 : TRef sig ⟨S_, .i32⟩), (.of main_while0b_call1_c : TRef sig ⟨S_, .i32⟩), (.of main_while0b_call1_c_0 : TRef sig ⟨S_, .i32⟩)] (.of main_while0b_call1_v0 : TRef sig ⟨S1x16x1, .i1⟩) (fun x i => Host.dynamicSlice S1x16x1 x (fun k => (i k (Shape.Idx.first h_S_)).toInt) sliceFits_S2048x16x1_S1x16x1)
  :: StableHlo.TRef.reshape (.of main_while0b_call1_v0 : TRef sig ⟨S1x16x1, .i1⟩) (.of main_while0b_v28 : TRef sig ⟨S16x1, .i1⟩) (rfl : (.i1 : EltTy) = .i1) shapeCasts_S1x16x1_S16x1
  :: [] )
/-- The operations of `aValid` use buffers of the one core. -/
theorem aValid_sub : (aValid : List (HloOp τ sig (Elt F))).Forall fun op => op.bufs ⊆ tcRefs τ sig :=
  ⟨nullary_bufs_sub .., nullary_bufs_sub .., unaryIndexed_bufs_sub .., reshape_bufs_sub ..⟩
/-- The operations of `aValid` make no new buffer. -/
theorem aValid_fresh : (aValid : List (HloOp τ sig (Elt F))).Forall fun op => op.fresh = ∅ := forall_fresh_of_map rfl
/-- What `aValid` writes, in order. -/
abbrev aValid_W : List (Ref sig .tc) := [main_while0b_call1_c, main_while0b_call1_c_0, main_while0b_call1_v0, main_while0b_v28]
/-- `aValid` writes only these. -/
theorem aValid_writes : (aValid : List (HloOp τ sig (Elt F))).Forall fun op => op.writes ⊆ (aValid_W.map (Proc.devRef (τ := τ) .tc)).toFinset :=
  forall_writes_sub_of_map rfl

/-- The four gates side by side, before their nonlinearities. -/
abbrev aGates : List (HloOp τ sig (Elt F)) :=
  ( StableHlo.unary main_v12_2 main_while0b_v29 ((transpose S512x1024 [1, 0] · transposes_S1024x512_S512x1024_1_0) : (⟨S1024x512, .f32⟩ : BufTy).Contents (Elt F) → (⟨S512x1024, .f32⟩ : BufTy).Contents (Elt F))
  :: StableHlo.binary main_while0b_v27 main_while0b_v29 main_while0b_v30 ((fun l r => Host.dotGeneral dot_S16x512_S512x1024_S16x1024_1_0_0_1_n_n none l r) : (⟨S16x512, .f32⟩ : BufTy).Contents (Elt F) → (⟨S512x1024, .f32⟩ : BufTy).Contents (Elt F) → (⟨S16x1024, .f32⟩ : BufTy).Contents (Elt F))
  :: StableHlo.unary main_v12_3 main_while0b_v31 ((transpose S256x1024 [1, 0] · transposes_S1024x256_S256x1024_1_0) : (⟨S1024x256, .f32⟩ : BufTy).Contents (Elt F) → (⟨S256x1024, .f32⟩ : BufTy).Contents (Elt F))
  :: StableHlo.binary main_v12_7 main_while0b_v31 main_while0b_v32 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F))
  :: StableHlo.binary main_while0b_v30 main_while0b_v32 main_while0b_v33 (addf : (⟨S16x1024, .f32⟩ : BufTy).Contents (Elt F) → (⟨S16x1024, .f32⟩ : BufTy).Contents (Elt F) → (⟨S16x1024, .f32⟩ : BufTy).Contents (Elt F))
  :: StableHlo.unary main_v12_4 main_while0b_v34 (broadcastInDim S1x1024 ![1] bcast_S1024_S1x1024_1 : (⟨S1024, .f32⟩ : BufTy).Contents (Elt F) → (⟨S1x1024, .f32⟩ : BufTy).Contents (Elt F))
  :: StableHlo.unary main_while0b_v34 main_while0b_v35 (broadcastInDim S16x1024 ![0, 1] bcast_S1x1024_S16x1024_0_1 : (⟨S1x1024, .f32⟩ : BufTy).Contents (Elt F) → (⟨S16x1024, .f32⟩ : BufTy).Contents (Elt F))
  :: StableHlo.binary main_while0b_v33 main_while0b_v35 main_while0b_v36 (addf : (⟨S16x1024, .f32⟩ : BufTy).Contents (Elt F) → (⟨S16x1024, .f32⟩ : BufTy).Contents (Elt F) → (⟨S16x1024, .f32⟩ : BufTy).Contents (Elt F))
  :: StableHlo.unary main_v12_5 main_while0b_v37 (broadcastInDim S1x1024 ![1] bcast_S1024_S1x1024_1 : (⟨S1024, .f32⟩ : BufTy).Contents (Elt F) → (⟨S1x1024, .f32⟩ : BufTy).Contents (Elt F))
  :: StableHlo.unary main_while0b_v37 main_while0b_v38 (broadcastInDim S16x1024 ![0, 1] bcast_S1x1024_S16x1024_0_1 : (⟨S1x1024, .f32⟩ : BufTy).Contents (Elt F) → (⟨S16x1024, .f32⟩ : BufTy).Contents (Elt F))
  :: StableHlo.binary main_while0b_v36 main_while0b_v38 main_while0b_v39 (addf : (⟨S16x1024, .f32⟩ : BufTy).Contents (Elt F) → (⟨S16x1024, .f32⟩ : BufTy).Contents (Elt F) → (⟨S16x1024, .f32⟩ : BufTy).Contents (Elt F))
  :: [] )
/-- The operations of `aGates` use buffers of the one core. -/
theorem aGates_sub : (aGates : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., binary_bufs_sub ..⟩
/-- The operations of `aGates` make no new buffer. -/
theorem aGates_fresh : (aGates : List (HloOp τ sig (Elt F))).Forall fun op => op.fresh = ∅ := forall_fresh_of_map rfl
/-- What `aGates` writes, in order. -/
abbrev aGates_W : List (Ref sig .tc) := [main_while0b_v29, main_while0b_v30, main_while0b_v31, main_while0b_v32, main_while0b_v33, main_while0b_v34, main_while0b_v35, main_while0b_v36, main_while0b_v37, main_while0b_v38, main_while0b_v39]
/-- `aGates` writes only these. -/
theorem aGates_writes : (aGates : List (HloOp τ sig (Elt F))).Forall fun op => op.writes ⊆ (aGates_W.map (Proc.devRef (τ := τ) .tc)).toFinset :=
  forall_writes_sub_of_map rfl

/-- The gates cut apart and the new cell state. -/
abbrev aCell : List (HloOp τ sig (Elt F)) :=
  ( StableHlo.unary main_while0b_v39 main_while0b_v40 ((extractStridedSlice S16x256 ![0, 0] · slices_S16x1024_S16x256_0_0) : (⟨S16x1024, .f32⟩ : BufTy).Contents (Elt F) → (⟨S16x256, .f32⟩ : BufTy).Contents (Elt F))
  :: StableHlo.unary main_while0b_v39 main_while0b_v41 ((extractStridedSlice S16x256 ![0, 256] · slices_S16x1024_S16x256_0_256) : (⟨S16x1024, .f32⟩ : BufTy).Contents (Elt F) → (⟨S16x256, .f32⟩ : BufTy).Contents (Elt F))
  :: StableHlo.unary main_while0b_v39 main_while0b_v42 ((extractStridedSlice S16x256 ![0, 512] · slices_S16x1024_S16x256_0_512) : (⟨S16x1024, .f32⟩ : BufTy).Contents (Elt F) → (⟨S16x256, .f32⟩ : BufTy).Contents (Elt F))
  :: StableHlo.unary main_while0b_v39 main_while0b_v43 ((extractStridedSlice S16x256 ![0, 768] · slices_S16x1024_S16x256_0_768) : (⟨S16x1024, .f32⟩ : BufTy).Contents (Elt F) → (⟨S16x256, .f32⟩ : BufTy).Contents (Elt F))
  :: StableHlo.unary main_while0b_v41 main_while0b_v44 (Host.negf : (⟨S16x256, .f32⟩ : BufTy).Contents (Elt F) → (⟨S16x256, .f32⟩ : BufTy).Contents (Elt F))
  :: StableHlo.unary main_while0b_v44 main_while0b_v45 (Host.exp : (⟨S16x256, .f32⟩ : BufTy).Contents (Elt F) → (⟨S16x256, .f32⟩ : BufTy).Contents (Elt F))
  :: StableHlo.nullary main_while0b_cst_15 (constant S_ .f32 0x3F800000#32)
  :: StableHlo.unary main_while0b_cst_15 main_while0b_v46 (broadcastInDim S16x256 ![] bcast_S_S16x256 : (⟨S_, .f32⟩ : BufTy).Contents (Elt F) → (⟨S16x256, .f32⟩ : BufTy).Contents (Elt F))
  :: StableHlo.binary main_while0b_v46 main_while0b_v45 main_while0b_v47 (addf : (⟨S16x256, .f32⟩ : BufTy).Contents (Elt F) → (⟨S16x256, .f32⟩ : BufTy).Contents (Elt F) → (⟨S16x256, .f32⟩ : BufTy).Contents (Elt F))
  :: StableHlo.nullary main_while0b_cst_16 (constant S_ .f32 0x3F800000#32)
  :: StableHlo.unary main_while0b_cst_16 main_while0b_v48 (broadcastInDim S16x256 ![] bcast_S_S16x256 : (⟨S_, .f32⟩ : BufTy).Contents (Elt F) → (⟨S16x256, .f32⟩ : BufTy).Contents (Elt F))
  :: StableHlo.binary main_while0b_v48 main_while0b_v47 main_while0b_v49 (Host.divf : (⟨S16x256, .f32⟩ : BufTy).Contents (Elt F) → (⟨S16x256, .f32⟩ : BufTy).Contents (Elt F) → (⟨S16x256, .f32⟩ : BufTy).Contents (Elt F))
  :: StableHlo.binary main_while0b_v49 main_v12_8 main_while0b_v50 (mulf : (⟨S16x256, .f32⟩ : BufTy).Contents (Elt F) → (⟨S16x256, .f32⟩ : BufTy).Contents (Elt F) → (⟨S16x256, .f32⟩ : BufTy).Contents (Elt F))
  :: StableHlo.unary main_while0b_v40 main_while0b_v51 (Host.negf : (⟨S16x256, .f32⟩ : BufTy).Contents (Elt F) → (⟨S16x256, .f32⟩ : BufTy).Contents (Elt F))
  :: StableHlo.unary main_while0b_v51 main_while0b_v52 (Host.exp : (⟨S16x256, .f32⟩ : BufTy).Contents (Elt F) → (⟨S16x256, .f32⟩ : BufTy).Contents (Elt F))
  :: StableHlo.nullary main_while0b_cst_17 (constant S_ .f32 0x3F800000#32)
  :: StableHlo.unary main_while0b_cst_17 main_while0b_v53 (broadcastInDim S16x256 ![] bcast_S_S16x256 : (⟨S_, .f32⟩ : BufTy).Contents (Elt F) → (⟨S16x256, .f32⟩ : BufTy).Contents (Elt F))
  :: StableHlo.binary main_while0b_v53 main_while0b_v52 main_while0b_v54 (addf : (⟨S16x256, .f32⟩ : BufTy).Contents (Elt F) → (⟨S16x256, .f32⟩ : BufTy).Contents (Elt F) → (⟨S16x256, .f32⟩ : BufTy).Contents (Elt F))
  :: StableHlo.nullary main_while0b_cst_18 (constant S_ .f32 0x3F800000#32)
  :: StableHlo.unary main_while0b_cst_18 main_while0b_v55 (broadcastInDim S16x256 ![] bcast_S_S16x256 : (⟨S_, .f32⟩ : BufTy).Contents (Elt F) → (⟨S16x256, .f32⟩ : BufTy).Contents (Elt F))
  :: StableHlo.binary main_while0b_v55 main_while0b_v54 main_while0b_v56 (Host.divf : (⟨S16x256, .f32⟩ : BufTy).Contents (Elt F) → (⟨S16x256, .f32⟩ : BufTy).Contents (Elt F) → (⟨S16x256, .f32⟩ : BufTy).Contents (Elt F))
  :: StableHlo.unary main_while0b_v42 main_while0b_v57 (Host.tanh : (⟨S16x256, .f32⟩ : BufTy).Contents (Elt F) → (⟨S16x256, .f32⟩ : BufTy).Contents (Elt F))
  :: StableHlo.binary main_while0b_v56 main_while0b_v57 main_while0b_v58 (mulf : (⟨S16x256, .f32⟩ : BufTy).Contents (Elt F) → (⟨S16x256, .f32⟩ : BufTy).Contents (Elt F) → (⟨S16x256, .f32⟩ : BufTy).Contents (Elt F))
  :: StableHlo.binary main_while0b_v50 main_while0b_v58 main_while0b_v59 (addf : (⟨S16x256, .f32⟩ : BufTy).Contents (Elt F) → (⟨S16x256, .f32⟩ : BufTy).Contents (Elt F) → (⟨S16x256, .f32⟩ : BufTy).Contents (Elt F))
  :: [] )
/-- The operations of `aCell` use buffers of the one core. -/
theorem aCell_sub : (aCell : List (HloOp τ sig (Elt F))).Forall fun op => op.bufs ⊆ tcRefs τ sig :=
  ⟨unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩
/-- The operations of `aCell` make no new buffer. -/
theorem aCell_fresh : (aCell : List (HloOp τ sig (Elt F))).Forall fun op => op.fresh = ∅ := forall_fresh_of_map rfl
/-- What `aCell` writes, in order. -/
abbrev aCell_W : List (Ref sig .tc) := [main_while0b_v40, main_while0b_v41, main_while0b_v42, main_while0b_v43, main_while0b_v44, main_while0b_v45, main_while0b_cst_15, main_while0b_v46, main_while0b_v47, main_while0b_cst_16, main_while0b_v48, main_while0b_v49, main_while0b_v50, main_while0b_v51, main_while0b_v52, main_while0b_cst_17, main_while0b_v53, main_while0b_v54, main_while0b_cst_18, main_while0b_v55, main_while0b_v56, main_while0b_v57, main_while0b_v58, main_while0b_v59]
/-- `aCell` writes only these. -/
theorem aCell_writes : (aCell : List (HloOp τ sig (Elt F))).Forall fun op => op.writes ⊆ (aCell_W.map (Proc.devRef (τ := τ) .tc)).toFinset :=
  forall_writes_sub_of_map rfl

/-- The new hidden state. -/
abbrev aHid : List (HloOp τ sig (Elt F)) :=
  ( StableHlo.unary main_while0b_v43 main_while0b_v60 (Host.negf : (⟨S16x256, .f32⟩ : BufTy).Contents (Elt F) → (⟨S16x256, .f32⟩ : BufTy).Contents (Elt F))
  :: StableHlo.unary main_while0b_v60 main_while0b_v61 (Host.exp : (⟨S16x256, .f32⟩ : BufTy).Contents (Elt F) → (⟨S16x256, .f32⟩ : BufTy).Contents (Elt F))
  :: StableHlo.nullary main_while0b_cst_19 (constant S_ .f32 0x3F800000#32)
  :: StableHlo.unary main_while0b_cst_19 main_while0b_v62 (broadcastInDim S16x256 ![] bcast_S_S16x256 : (⟨S_, .f32⟩ : BufTy).Contents (Elt F) → (⟨S16x256, .f32⟩ : BufTy).Contents (Elt F))
  :: StableHlo.binary main_while0b_v62 main_while0b_v61 main_while0b_v63 (addf : (⟨S16x256, .f32⟩ : BufTy).Contents (Elt F) → (⟨S16x256, .f32⟩ : BufTy).Contents (Elt F) → (⟨S16x256, .f32⟩ : BufTy).Contents (Elt F))
  :: StableHlo.nullary main_while0b_cst_20 (constant S_ .f32 0x3F800000#32)
  :: StableHlo.unary main_while0b_cst_20 main_while0b_v64 (broadcastInDim S16x256 ![] bcast_S_S16x256 : (⟨S_, .f32⟩ : BufTy).Contents (Elt F) → (⟨S16x256, .f32⟩ : BufTy).Contents (Elt F))
  :: StableHlo.binary main_while0b_v64 main_while0b_v63 main_while0b_v65 (Host.divf : (⟨S16x256, .f32⟩ : BufTy).Contents (Elt F) → (⟨S16x256, .f32⟩ : BufTy).Contents (Elt F) → (⟨S16x256, .f32⟩ : BufTy).Contents (Elt F))
  :: StableHlo.unary main_while0b_v59 main_while0b_v66 (Host.tanh : (⟨S16x256, .f32⟩ : BufTy).Contents (Elt F) → (⟨S16x256, .f32⟩ : BufTy).Contents (Elt F))
  :: StableHlo.binary main_while0b_v65 main_while0b_v66 main_while0b_v67 (mulf : (⟨S16x256, .f32⟩ : BufTy).Contents (Elt F) → (⟨S16x256, .f32⟩ : BufTy).Contents (Elt F) → (⟨S16x256, .f32⟩ : BufTy).Contents (Elt F))
  :: [] )
/-- The operations of `aHid` use buffers of the one core. -/
theorem aHid_sub : (aHid : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., binary_bufs_sub ..⟩
/-- The operations of `aHid` make no new buffer. -/
theorem aHid_fresh : (aHid : List (HloOp τ sig (Elt F))).Forall fun op => op.fresh = ∅ := forall_fresh_of_map rfl
/-- What `aHid` writes, in order. -/
abbrev aHid_W : List (Ref sig .tc) := [main_while0b_v60, main_while0b_v61, main_while0b_cst_19, main_while0b_v62, main_while0b_v63, main_while0b_cst_20, main_while0b_v64, main_while0b_v65, main_while0b_v66, main_while0b_v67]
/-- `aHid` writes only these. -/
theorem aHid_writes : (aHid : List (HloOp τ sig (Elt F))).Forall fun op => op.writes ⊆ (aHid_W.map (Proc.devRef (τ := τ) .tc)).toFinset :=
  forall_writes_sub_of_map rfl

/-- The hidden state kept where the sequence has ended. -/
abbrev aSelH : List (HloOp τ sig (Elt F)) :=
  ( StableHlo.TRef.unary (.of main_while0b_v28 : TRef sig ⟨S16x1, .i1⟩) (.of main_while0b_call2_v0 : TRef sig ⟨S16x256, .i1⟩) (broadcastInDim S16x256 ![0, 1] bcast_S16x1_S16x256_0_1)
  :: StableHlo.TRef.ternary (.of main_while0b_call2_v0 : TRef sig ⟨S16x256, .i1⟩) (.of main_while0b_v67 : TRef sig ⟨S16x256, .f32⟩) (.of main_v12_7 : TRef sig ⟨S16x256, .f32⟩) (.of main_while0b_v68 : TRef sig ⟨S16x256, .f32⟩) select
  :: [] )
/-- The operations of `aSelH` use buffers of the one core. -/
theorem aSelH_sub : (aSelH : List (HloOp τ sig (Elt F))).Forall fun op => op.bufs ⊆ tcRefs τ sig :=
  ⟨unary_bufs_sub .., ternary_bufs_sub ..⟩
/-- The operations of `aSelH` make no new buffer. -/
theorem aSelH_fresh : (aSelH : List (HloOp τ sig (Elt F))).Forall fun op => op.fresh = ∅ := forall_fresh_of_map rfl
/-- What `aSelH` writes, in order. -/
abbrev aSelH_W : List (Ref sig .tc) := [main_while0b_call2_v0, main_while0b_v68]
/-- `aSelH` writes only these. -/
theorem aSelH_writes : (aSelH : List (HloOp τ sig (Elt F))).Forall fun op => op.writes ⊆ (aSelH_W.map (Proc.devRef (τ := τ) .tc)).toFinset :=
  forall_writes_sub_of_map rfl

/-- The cell state kept where the sequence has ended. -/
abbrev aSelC : List (HloOp τ sig (Elt F)) :=
  ( StableHlo.TRef.unary (.of main_while0b_v28 : TRef sig ⟨S16x1, .i1⟩) (.of main_while0b_call3_v0 : TRef sig ⟨S16x256, .i1⟩) (broadcastInDim S16x256 ![0, 1] bcast_S16x1_S16x256_0_1)
  :: StableHlo.TRef.ternary (.of main_while0b_call3_v0 : TRef sig ⟨S16x256, .i1⟩) (.of main_while0b_v59 : TRef sig ⟨S16x256, .f32⟩) (.of main_v12_8 : TRef sig ⟨S16x256, .f32⟩) (.of main_while0b_v69 : TRef sig ⟨S16x256, .f32⟩) select
  :: [] )
/-- The operations of `aSelC` use buffers of the one core. -/
theorem aSelC_sub : (aSelC : List (HloOp τ sig (Elt F))).Forall fun op => op.bufs ⊆ tcRefs τ sig :=
  ⟨unary_bufs_sub .., ternary_bufs_sub ..⟩
/-- The operations of `aSelC` make no new buffer. -/
theorem aSelC_fresh : (aSelC : List (HloOp τ sig (Elt F))).Forall fun op => op.fresh = ∅ := forall_fresh_of_map rfl
/-- What `aSelC` writes, in order. -/
abbrev aSelC_W : List (Ref sig .tc) := [main_while0b_call3_v0, main_while0b_v69]
/-- `aSelC` writes only these. -/
theorem aSelC_writes : (aSelC : List (HloOp τ sig (Elt F))).Forall fun op => op.writes ⊆ (aSelC_W.map (Proc.devRef (τ := τ) .tc)).toFinset :=
  forall_writes_sub_of_map rfl

/-- The trip's hidden state stored. -/
abbrev aYs : List (HloOp τ sig (Elt F)) :=
  ( StableHlo.TRef.unary (.of main_while0b_v68 : TRef sig ⟨S16x256, .f32⟩) (.of main_while0b_call4_v0 : TRef sig ⟨S1x16x256, .f32⟩) (broadcastInDim S1x16x256 ![1, 2] bcast_S16x256_S1x16x256_1_2)
  :: StableHlo.TRef.nullary (.of main_while0b_call4_c : TRef sig ⟨S_, .i32⟩) (constantI S_ 32 0#32)
  :: StableHlo.TRef.nullary (.of main_while0b_call4_c_0 : TRef sig ⟨S_, .i32⟩) (constantI S_ 32 0#32)
  :: StableHlo.TRef.binaryIndexed (.of main_v12_9 : TRef sig ⟨S2048x16x256, .f32⟩) (.of main_while0b_call4_v0 : TRef sig ⟨S1x16x256, .f32⟩) ![(.of main_v12_6 : TRef sig ⟨S_, .i32⟩), (.of main_while0b_call4_c : TRef sig ⟨S_, .i32⟩), (.of main_while0b_call4_c_0 : TRef sig ⟨S_, .i32⟩)] (.of main_while0b_v70 : TRef sig ⟨S2048x16x256, .f32⟩) (fun x u i => Host.dynamicUpdateSlice x u (fun k => (i k (Shape.Idx.first h_S_)).toInt) updateFits_S2048x16x256_S1x16x256)
  :: [] )
/-- The operations of `aYs` use buffers of the one core. -/
theorem aYs_sub : (aYs : List (HloOp τ sig (Elt F))).Forall fun op => op.bufs ⊆ tcRefs τ sig :=
  ⟨unary_bufs_sub .., nullary_bufs_sub .., nullary_bufs_sub .., binaryIndexed_bufs_sub ..⟩
/-- The operations of `aYs` make no new buffer. -/
theorem aYs_fresh : (aYs : List (HloOp τ sig (Elt F))).Forall fun op => op.fresh = ∅ := forall_fresh_of_map rfl
/-- What `aYs` writes, in order. -/
abbrev aYs_W : List (Ref sig .tc) := [main_while0b_call4_v0, main_while0b_call4_c, main_while0b_call4_c_0, main_while0b_v70]
/-- `aYs` writes only these. -/
theorem aYs_writes : (aYs : List (HloOp τ sig (Elt F))).Forall fun op => op.writes ⊆ (aYs_W.map (Proc.devRef (τ := τ) .tc)).toFinset :=
  forall_writes_sub_of_map rfl

/-- The counter's step and the carried values handed on. -/
abbrev aNext : List (HloOp τ sig (Elt F)) :=
  ( StableHlo.nullary main_while0b_c_21 (constantI S_ 32 1#32)
  :: StableHlo.binary main_v12_6 main_while0b_c_21 main_while0b_v71 (addi : (⟨S_, .i32⟩ : BufTy).Contents (Elt F) → (⟨S_, .i32⟩ : BufTy).Contents (Elt F) → (⟨S_, .i32⟩ : BufTy).Contents (Elt F))
  :: StableHlo.unary main_while0b_v71 main_v12_6 id
  :: StableHlo.unary main_while0b_v68 main_v12_7 id
  :: StableHlo.unary main_while0b_v69 main_v12_8 id
  :: StableHlo.unary main_while0b_v70 main_v12_9 id
  :: [] )
/-- The operations of `aNext` use buffers of the one core. -/
theorem aNext_sub : (aNext : List (HloOp τ sig (Elt F))).Forall fun op => op.bufs ⊆ tcRefs τ sig :=
  ⟨nullary_bufs_sub .., binary_bufs_sub .., unary_bufs_sub .., unary_bufs_sub .., unary_bufs_sub .., unary_bufs_sub ..⟩
/-- The operations of `aNext` make no new buffer. -/
theorem aNext_fresh : (aNext : List (HloOp τ sig (Elt F))).Forall fun op => op.fresh = ∅ := forall_fresh_of_map rfl
/-- What `aNext` writes, in order. -/
abbrev aNext_W : List (Ref sig .tc) := [main_while0b_c_21, main_while0b_v71, main_v12_6, main_v12_7, main_v12_8, main_v12_9]
/-- `aNext` writes only these. -/
theorem aNext_writes : (aNext : List (HloOp τ sig (Elt F))).Forall fun op => op.writes ⊆ (aNext_W.map (Proc.devRef (τ := τ) .tc)).toFinset :=
  forall_writes_sub_of_map rfl

/-- The trip's time: the last time minus the counter. -/
abbrev bTime : List (HloOp τ sig (Elt F)) :=
  ( StableHlo.nullary main_while1b_c_15 (constantI S_ 32 2048#32)
  :: StableHlo.binary main_while1b_c_15 main_v25_6 main_while1b_v27 (subi : (⟨S_, .i32⟩ : BufTy).Contents (Elt F) → (⟨S_, .i32⟩ : BufTy).Contents (Elt F) → (⟨S_, .i32⟩ : BufTy).Contents (Elt F))
  :: StableHlo.nullary main_while1b_c_16 (constantI S_ 32 1#32)
  :: StableHlo.binary main_while1b_v27 main_while1b_c_16 main_while1b_v28 (subi : (⟨S_, .i32⟩ : BufTy).Contents (Elt F) → (⟨S_, .i32⟩ : BufTy).Contents (Elt F) → (⟨S_, .i32⟩ : BufTy).Contents (Elt F))
  :: [] )
/-- The operations of `bTime` use buffers of the one core. -/
theorem bTime_sub : (bTime : List (HloOp τ sig (Elt F))).Forall fun op => op.bufs ⊆ tcRefs τ sig :=
  ⟨nullary_bufs_sub .., binary_bufs_sub .., nullary_bufs_sub .., binary_bufs_sub ..⟩
/-- The operations of `bTime` make no new buffer. -/
theorem bTime_fresh : (bTime : List (HloOp τ sig (Elt F))).Forall fun op => op.fresh = ∅ := forall_fresh_of_map rfl
/-- What `bTime` writes, in order. -/
abbrev bTime_W : List (Ref sig .tc) := [main_while1b_c_15, main_while1b_v27, main_while1b_c_16, main_while1b_v28]
/-- `bTime` writes only these. -/
theorem bTime_writes : (bTime : List (HloOp τ sig (Elt F))).Forall fun op => op.writes ⊆ (bTime_W.map (Proc.devRef (τ := τ) .tc)).toFinset :=
  forall_writes_sub_of_map rfl

/-- The row of the inputs at the trip's time. -/
abbrev bRow : List (HloOp τ sig (Elt F)) :=
  ( StableHlo.TRef.nullary (.of main_while1b_call5_c : TRef sig ⟨S_, .i32⟩) (constantI S_ 32 0#32)
  :: StableHlo.TRef.nullary (.of main_while1b_call5_c_0 : TRef sig ⟨S_, .i32⟩) (constantI S_ 32 0#32)
  :: StableHlo.TRef.unaryIndexed (.of main_v25_0 : TRef sig ⟨S2048x16x512, .f32⟩) ![(.of main_while1b_v28 : TRef sig ⟨S_, .i32⟩), (.of main_while1b_call5_c : TRef sig ⟨S_, .i32⟩), (.of main_while1b_call5_c_0 : TRef sig ⟨S_, .i32⟩)] (.of main_while1b_call5_v0 : TRef sig ⟨S1x16x512, .f32⟩) (fun x i => Host.dynamicSlice S1x16x512 x (fun k => (i k (Shape.Idx.first h_S_)).toInt) sliceFits_S2048x16x512_S1x16x512)
  :: StableHlo.TRef.reshape (.of main_while1b_call5_v0 : TRef sig ⟨S1x16x512, .f32⟩) (.of main_while1b_v29 : TRef sig ⟨S16x512, .f32⟩) (rfl : (.f32 : EltTy) = .f32) shapeCasts_S1x16x512_S16x512
  :: [] )
/-- The operations of `bRow` use buffers of the one core. -/
theorem bRow_sub : (bRow : List (HloOp τ sig (Elt F))).Forall fun op => op.bufs ⊆ tcRefs τ sig :=
  ⟨nullary_bufs_sub .., nullary_bufs_sub .., unaryIndexed_bufs_sub .., reshape_bufs_sub ..⟩
/-- The operations of `bRow` make no new buffer. -/
theorem bRow_fresh : (bRow : List (HloOp τ sig (Elt F))).Forall fun op => op.fresh = ∅ := forall_fresh_of_map rfl
/-- What `bRow` writes, in order. -/
abbrev bRow_W : List (Ref sig .tc) := [main_while1b_call5_c, main_while1b_call5_c_0, main_while1b_call5_v0, main_while1b_v29]
/-- `bRow` writes only these. -/
theorem bRow_writes : (bRow : List (HloOp τ sig (Elt F))).Forall fun op => op.writes ⊆ (bRow_W.map (Proc.devRef (τ := τ) .tc)).toFinset :=
  forall_writes_sub_of_map rfl

/-- The mask at the trip's time. -/
abbrev bValid : List (HloOp τ sig (Elt F)) :=
  ( StableHlo.TRef.nullary (.of main_while1b_call6_c : TRef sig ⟨S_, .i32⟩) (constantI S_ 32 0#32)
  :: StableHlo.TRef.nullary (.of main_while1b_call6_c_0 : TRef sig ⟨S_, .i32⟩) (constantI S_ 32 0#32)
  :: StableHlo.TRef.unaryIndexed (.of main_v25_1 : TRef sig ⟨S2048x16x1, .i1⟩) ![(.of main_while1b_v28 : TRef sig ⟨S_, .i32⟩), (.of main_while1b_call6_c : TRef sig ⟨S_, .i32⟩), (.of main_while1b_call6_c_0 : TRef sig ⟨S_, .i32⟩)] (.of main_while1b_call6_v0 : TRef sig ⟨S1x16x1, .i1⟩) (fun x i => Host.dynamicSlice S1x16x1 x (fun k => (i k (Shape.Idx.first h_S_)).toInt) sliceFits_S2048x16x1_S1x16x1)
  :: StableHlo.TRef.reshape (.of main_while1b_call6_v0 : TRef sig ⟨S1x16x1, .i1⟩) (.of main_while1b_v30 : TRef sig ⟨S16x1, .i1⟩) (rfl : (.i1 : EltTy) = .i1) shapeCasts_S1x16x1_S16x1
  :: [] )
/-- The operations of `bValid` use buffers of the one core. -/
theorem bValid_sub : (bValid : List (HloOp τ sig (Elt F))).Forall fun op => op.bufs ⊆ tcRefs τ sig :=
  ⟨nullary_bufs_sub .., nullary_bufs_sub .., unaryIndexed_bufs_sub .., reshape_bufs_sub ..⟩
/-- The operations of `bValid` make no new buffer. -/
theorem bValid_fresh : (bValid : List (HloOp τ sig (Elt F))).Forall fun op => op.fresh = ∅ := forall_fresh_of_map rfl
/-- What `bValid` writes, in order. -/
abbrev bValid_W : List (Ref sig .tc) := [main_while1b_call6_c, main_while1b_call6_c_0, main_while1b_call6_v0, main_while1b_v30]
/-- `bValid` writes only these. -/
theorem bValid_writes : (bValid : List (HloOp τ sig (Elt F))).Forall fun op => op.writes ⊆ (bValid_W.map (Proc.devRef (τ := τ) .tc)).toFinset :=
  forall_writes_sub_of_map rfl

/-- The four gates side by side, before their nonlinearities. -/
abbrev bGates : List (HloOp τ sig (Elt F)) :=
  ( StableHlo.unary main_v25_2 main_while1b_v31 ((transpose S512x1024 [1, 0] · transposes_S1024x512_S512x1024_1_0) : (⟨S1024x512, .f32⟩ : BufTy).Contents (Elt F) → (⟨S512x1024, .f32⟩ : BufTy).Contents (Elt F))
  :: StableHlo.binary main_while1b_v29 main_while1b_v31 main_while1b_v32 ((fun l r => Host.dotGeneral dot_S16x512_S512x1024_S16x1024_1_0_0_1_n_n none l r) : (⟨S16x512, .f32⟩ : BufTy).Contents (Elt F) → (⟨S512x1024, .f32⟩ : BufTy).Contents (Elt F) → (⟨S16x1024, .f32⟩ : BufTy).Contents (Elt F))
  :: StableHlo.unary main_v25_3 main_while1b_v33 ((transpose S256x1024 [1, 0] · transposes_S1024x256_S256x1024_1_0) : (⟨S1024x256, .f32⟩ : BufTy).Contents (Elt F) → (⟨S256x1024, .f32⟩ : BufTy).Contents (Elt F))
  :: StableHlo.binary main_v25_7 main_while1b_v33 main_while1b_v34 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F))
  :: StableHlo.binary main_while1b_v32 main_while1b_v34 main_while1b_v35 (addf : (⟨S16x1024, .f32⟩ : BufTy).Contents (Elt F) → (⟨S16x1024, .f32⟩ : BufTy).Contents (Elt F) → (⟨S16x1024, .f32⟩ : BufTy).Contents (Elt F))
  :: StableHlo.unary main_v25_4 main_while1b_v36 (broadcastInDim S1x1024 ![1] bcast_S1024_S1x1024_1 : (⟨S1024, .f32⟩ : BufTy).Contents (Elt F) → (⟨S1x1024, .f32⟩ : BufTy).Contents (Elt F))
  :: StableHlo.unary main_while1b_v36 main_while1b_v37 (broadcastInDim S16x1024 ![0, 1] bcast_S1x1024_S16x1024_0_1 : (⟨S1x1024, .f32⟩ : BufTy).Contents (Elt F) → (⟨S16x1024, .f32⟩ : BufTy).Contents (Elt F))
  :: StableHlo.binary main_while1b_v35 main_while1b_v37 main_while1b_v38 (addf : (⟨S16x1024, .f32⟩ : BufTy).Contents (Elt F) → (⟨S16x1024, .f32⟩ : BufTy).Contents (Elt F) → (⟨S16x1024, .f32⟩ : BufTy).Contents (Elt F))
  :: StableHlo.unary main_v25_5 main_while1b_v39 (broadcastInDim S1x1024 ![1] bcast_S1024_S1x1024_1 : (⟨S1024, .f32⟩ : BufTy).Contents (Elt F) → (⟨S1x1024, .f32⟩ : BufTy).Contents (Elt F))
  :: StableHlo.unary main_while1b_v39 main_while1b_v40 (broadcastInDim S16x1024 ![0, 1] bcast_S1x1024_S16x1024_0_1 : (⟨S1x1024, .f32⟩ : BufTy).Contents (Elt F) → (⟨S16x1024, .f32⟩ : BufTy).Contents (Elt F))
  :: StableHlo.binary main_while1b_v38 main_while1b_v40 main_while1b_v41 (addf : (⟨S16x1024, .f32⟩ : BufTy).Contents (Elt F) → (⟨S16x1024, .f32⟩ : BufTy).Contents (Elt F) → (⟨S16x1024, .f32⟩ : BufTy).Contents (Elt F))
  :: [] )
/-- The operations of `bGates` use buffers of the one core. -/
theorem bGates_sub : (bGates : List (HloOp τ sig (Elt F))).Forall fun op => op.bufs ⊆ tcRefs τ sig :=
  ⟨unary_bufs_sub .., binary_bufs_sub .., unary_bufs_sub .., binary_bufs_sub .., binary_bufs_sub .., unary_bufs_sub .., unary_bufs_sub .., binary_bufs_sub .., unary_bufs_sub .., unary_bufs_sub .., binary_bufs_sub ..⟩
/-- The operations of `bGates` make no new buffer. -/
theorem bGates_fresh : (bGates : List (HloOp τ sig (Elt F))).Forall fun op => op.fresh = ∅ := forall_fresh_of_map rfl
/-- What `bGates` writes, in order. -/
abbrev bGates_W : List (Ref sig .tc) := [main_while1b_v31, main_while1b_v32, main_while1b_v33, main_while1b_v34, main_while1b_v35, main_while1b_v36, main_while1b_v37, main_while1b_v38, main_while1b_v39, main_while1b_v40, main_while1b_v41]
/-- `bGates` writes only these. -/
theorem bGates_writes : (bGates : List (HloOp τ sig (Elt F))).Forall fun op => op.writes ⊆ (bGates_W.map (Proc.devRef (τ := τ) .tc)).toFinset :=
  forall_writes_sub_of_map rfl

/-- The gates cut apart and the new cell state. -/
abbrev bCell : List (HloOp τ sig (Elt F)) :=
  ( StableHlo.unary main_while1b_v41 main_while1b_v42 ((extractStridedSlice S16x256 ![0, 0] · slices_S16x1024_S16x256_0_0) : (⟨S16x1024, .f32⟩ : BufTy).Contents (Elt F) → (⟨S16x256, .f32⟩ : BufTy).Contents (Elt F))
  :: StableHlo.unary main_while1b_v41 main_while1b_v43 ((extractStridedSlice S16x256 ![0, 256] · slices_S16x1024_S16x256_0_256) : (⟨S16x1024, .f32⟩ : BufTy).Contents (Elt F) → (⟨S16x256, .f32⟩ : BufTy).Contents (Elt F))
  :: StableHlo.unary main_while1b_v41 main_while1b_v44 ((extractStridedSlice S16x256 ![0, 512] · slices_S16x1024_S16x256_0_512) : (⟨S16x1024, .f32⟩ : BufTy).Contents (Elt F) → (⟨S16x256, .f32⟩ : BufTy).Contents (Elt F))
  :: StableHlo.unary main_while1b_v41 main_while1b_v45 ((extractStridedSlice S16x256 ![0, 768] · slices_S16x1024_S16x256_0_768) : (⟨S16x1024, .f32⟩ : BufTy).Contents (Elt F) → (⟨S16x256, .f32⟩ : BufTy).Contents (Elt F))
  :: StableHlo.unary main_while1b_v43 main_while1b_v46 (Host.negf : (⟨S16x256, .f32⟩ : BufTy).Contents (Elt F) → (⟨S16x256, .f32⟩ : BufTy).Contents (Elt F))
  :: StableHlo.unary main_while1b_v46 main_while1b_v47 (Host.exp : (⟨S16x256, .f32⟩ : BufTy).Contents (Elt F) → (⟨S16x256, .f32⟩ : BufTy).Contents (Elt F))
  :: StableHlo.nullary main_while1b_cst_17 (constant S_ .f32 0x3F800000#32)
  :: StableHlo.unary main_while1b_cst_17 main_while1b_v48 (broadcastInDim S16x256 ![] bcast_S_S16x256 : (⟨S_, .f32⟩ : BufTy).Contents (Elt F) → (⟨S16x256, .f32⟩ : BufTy).Contents (Elt F))
  :: StableHlo.binary main_while1b_v48 main_while1b_v47 main_while1b_v49 (addf : (⟨S16x256, .f32⟩ : BufTy).Contents (Elt F) → (⟨S16x256, .f32⟩ : BufTy).Contents (Elt F) → (⟨S16x256, .f32⟩ : BufTy).Contents (Elt F))
  :: StableHlo.nullary main_while1b_cst_18 (constant S_ .f32 0x3F800000#32)
  :: StableHlo.unary main_while1b_cst_18 main_while1b_v50 (broadcastInDim S16x256 ![] bcast_S_S16x256 : (⟨S_, .f32⟩ : BufTy).Contents (Elt F) → (⟨S16x256, .f32⟩ : BufTy).Contents (Elt F))
  :: StableHlo.binary main_while1b_v50 main_while1b_v49 main_while1b_v51 (Host.divf : (⟨S16x256, .f32⟩ : BufTy).Contents (Elt F) → (⟨S16x256, .f32⟩ : BufTy).Contents (Elt F) → (⟨S16x256, .f32⟩ : BufTy).Contents (Elt F))
  :: StableHlo.binary main_while1b_v51 main_v25_8 main_while1b_v52 (mulf : (⟨S16x256, .f32⟩ : BufTy).Contents (Elt F) → (⟨S16x256, .f32⟩ : BufTy).Contents (Elt F) → (⟨S16x256, .f32⟩ : BufTy).Contents (Elt F))
  :: StableHlo.unary main_while1b_v42 main_while1b_v53 (Host.negf : (⟨S16x256, .f32⟩ : BufTy).Contents (Elt F) → (⟨S16x256, .f32⟩ : BufTy).Contents (Elt F))
  :: StableHlo.unary main_while1b_v53 main_while1b_v54 (Host.exp : (⟨S16x256, .f32⟩ : BufTy).Contents (Elt F) → (⟨S16x256, .f32⟩ : BufTy).Contents (Elt F))
  :: StableHlo.nullary main_while1b_cst_19 (constant S_ .f32 0x3F800000#32)
  :: StableHlo.unary main_while1b_cst_19 main_while1b_v55 (broadcastInDim S16x256 ![] bcast_S_S16x256 : (⟨S_, .f32⟩ : BufTy).Contents (Elt F) → (⟨S16x256, .f32⟩ : BufTy).Contents (Elt F))
  :: StableHlo.binary main_while1b_v55 main_while1b_v54 main_while1b_v56 (addf : (⟨S16x256, .f32⟩ : BufTy).Contents (Elt F) → (⟨S16x256, .f32⟩ : BufTy).Contents (Elt F) → (⟨S16x256, .f32⟩ : BufTy).Contents (Elt F))
  :: StableHlo.nullary main_while1b_cst_20 (constant S_ .f32 0x3F800000#32)
  :: StableHlo.unary main_while1b_cst_20 main_while1b_v57 (broadcastInDim S16x256 ![] bcast_S_S16x256 : (⟨S_, .f32⟩ : BufTy).Contents (Elt F) → (⟨S16x256, .f32⟩ : BufTy).Contents (Elt F))
  :: StableHlo.binary main_while1b_v57 main_while1b_v56 main_while1b_v58 (Host.divf : (⟨S16x256, .f32⟩ : BufTy).Contents (Elt F) → (⟨S16x256, .f32⟩ : BufTy).Contents (Elt F) → (⟨S16x256, .f32⟩ : BufTy).Contents (Elt F))
  :: StableHlo.unary main_while1b_v44 main_while1b_v59 (Host.tanh : (⟨S16x256, .f32⟩ : BufTy).Contents (Elt F) → (⟨S16x256, .f32⟩ : BufTy).Contents (Elt F))
  :: StableHlo.binary main_while1b_v58 main_while1b_v59 main_while1b_v60 (mulf : (⟨S16x256, .f32⟩ : BufTy).Contents (Elt F) → (⟨S16x256, .f32⟩ : BufTy).Contents (Elt F) → (⟨S16x256, .f32⟩ : BufTy).Contents (Elt F))
  :: StableHlo.binary main_while1b_v52 main_while1b_v60 main_while1b_v61 (addf : (⟨S16x256, .f32⟩ : BufTy).Contents (Elt F) → (⟨S16x256, .f32⟩ : BufTy).Contents (Elt F) → (⟨S16x256, .f32⟩ : BufTy).Contents (Elt F))
  :: [] )
/-- The operations of `bCell` use buffers of the one core. -/
theorem bCell_sub : (bCell : List (HloOp τ sig (Elt F))).Forall fun op => op.bufs ⊆ tcRefs τ sig :=
  ⟨unary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., unary_bufs_sub .., unary_bufs_sub .., nullary_bufs_sub .., unary_bufs_sub .., binary_bufs_sub .., nullary_bufs_sub .., unary_bufs_sub .., binary_bufs_sub .., unary_bufs_sub .., binary_bufs_sub .., binary_bufs_sub ..⟩
/-- The operations of `bCell` make no new buffer. -/
theorem bCell_fresh : (bCell : List (HloOp τ sig (Elt F))).Forall fun op => op.fresh = ∅ := forall_fresh_of_map rfl
/-- What `bCell` writes, in order. -/
abbrev bCell_W : List (Ref sig .tc) := [main_while1b_v42, main_while1b_v43, main_while1b_v44, main_while1b_v45, main_while1b_v46, main_while1b_v47, main_while1b_cst_17, main_while1b_v48, main_while1b_v49, main_while1b_cst_18, main_while1b_v50, main_while1b_v51, main_while1b_v52, main_while1b_v53, main_while1b_v54, main_while1b_cst_19, main_while1b_v55, main_while1b_v56, main_while1b_cst_20, main_while1b_v57, main_while1b_v58, main_while1b_v59, main_while1b_v60, main_while1b_v61]
/-- `bCell` writes only these. -/
theorem bCell_writes : (bCell : List (HloOp τ sig (Elt F))).Forall fun op => op.writes ⊆ (bCell_W.map (Proc.devRef (τ := τ) .tc)).toFinset :=
  forall_writes_sub_of_map rfl

/-- The new hidden state. -/
abbrev bHid : List (HloOp τ sig (Elt F)) :=
  ( StableHlo.unary main_while1b_v45 main_while1b_v62 (Host.negf : (⟨S16x256, .f32⟩ : BufTy).Contents (Elt F) → (⟨S16x256, .f32⟩ : BufTy).Contents (Elt F))
  :: StableHlo.unary main_while1b_v62 main_while1b_v63 (Host.exp : (⟨S16x256, .f32⟩ : BufTy).Contents (Elt F) → (⟨S16x256, .f32⟩ : BufTy).Contents (Elt F))
  :: StableHlo.nullary main_while1b_cst_21 (constant S_ .f32 0x3F800000#32)
  :: StableHlo.unary main_while1b_cst_21 main_while1b_v64 (broadcastInDim S16x256 ![] bcast_S_S16x256 : (⟨S_, .f32⟩ : BufTy).Contents (Elt F) → (⟨S16x256, .f32⟩ : BufTy).Contents (Elt F))
  :: StableHlo.binary main_while1b_v64 main_while1b_v63 main_while1b_v65 (addf : (⟨S16x256, .f32⟩ : BufTy).Contents (Elt F) → (⟨S16x256, .f32⟩ : BufTy).Contents (Elt F) → (⟨S16x256, .f32⟩ : BufTy).Contents (Elt F))
  :: StableHlo.nullary main_while1b_cst_22 (constant S_ .f32 0x3F800000#32)
  :: StableHlo.unary main_while1b_cst_22 main_while1b_v66 (broadcastInDim S16x256 ![] bcast_S_S16x256 : (⟨S_, .f32⟩ : BufTy).Contents (Elt F) → (⟨S16x256, .f32⟩ : BufTy).Contents (Elt F))
  :: StableHlo.binary main_while1b_v66 main_while1b_v65 main_while1b_v67 (Host.divf : (⟨S16x256, .f32⟩ : BufTy).Contents (Elt F) → (⟨S16x256, .f32⟩ : BufTy).Contents (Elt F) → (⟨S16x256, .f32⟩ : BufTy).Contents (Elt F))
  :: StableHlo.unary main_while1b_v61 main_while1b_v68 (Host.tanh : (⟨S16x256, .f32⟩ : BufTy).Contents (Elt F) → (⟨S16x256, .f32⟩ : BufTy).Contents (Elt F))
  :: StableHlo.binary main_while1b_v67 main_while1b_v68 main_while1b_v69 (mulf : (⟨S16x256, .f32⟩ : BufTy).Contents (Elt F) → (⟨S16x256, .f32⟩ : BufTy).Contents (Elt F) → (⟨S16x256, .f32⟩ : BufTy).Contents (Elt F))
  :: [] )
/-- The operations of `bHid` use buffers of the one core. -/
theorem bHid_sub : (bHid : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., unary_bufs_sub .., binary_bufs_sub ..⟩
/-- The operations of `bHid` make no new buffer. -/
theorem bHid_fresh : (bHid : List (HloOp τ sig (Elt F))).Forall fun op => op.fresh = ∅ := forall_fresh_of_map rfl
/-- What `bHid` writes, in order. -/
abbrev bHid_W : List (Ref sig .tc) := [main_while1b_v62, main_while1b_v63, main_while1b_cst_21, main_while1b_v64, main_while1b_v65, main_while1b_cst_22, main_while1b_v66, main_while1b_v67, main_while1b_v68, main_while1b_v69]
/-- `bHid` writes only these. -/
theorem bHid_writes : (bHid : List (HloOp τ sig (Elt F))).Forall fun op => op.writes ⊆ (bHid_W.map (Proc.devRef (τ := τ) .tc)).toFinset :=
  forall_writes_sub_of_map rfl

/-- The hidden state kept where the sequence has ended. -/
abbrev bSelH : List (HloOp τ sig (Elt F)) :=
  ( StableHlo.TRef.unary (.of main_while1b_v30 : TRef sig ⟨S16x1, .i1⟩) (.of main_while1b_call7_v0 : TRef sig ⟨S16x256, .i1⟩) (broadcastInDim S16x256 ![0, 1] bcast_S16x1_S16x256_0_1)
  :: StableHlo.TRef.ternary (.of main_while1b_call7_v0 : TRef sig ⟨S16x256, .i1⟩) (.of main_while1b_v69 : TRef sig ⟨S16x256, .f32⟩) (.of main_v25_7 : TRef sig ⟨S16x256, .f32⟩) (.of main_while1b_v70 : TRef sig ⟨S16x256, .f32⟩) select
  :: [] )
/-- The operations of `bSelH` use buffers of the one core. -/
theorem bSelH_sub : (bSelH : List (HloOp τ sig (Elt F))).Forall fun op => op.bufs ⊆ tcRefs τ sig :=
  ⟨unary_bufs_sub .., ternary_bufs_sub ..⟩
/-- The operations of `bSelH` make no new buffer. -/
theorem bSelH_fresh : (bSelH : List (HloOp τ sig (Elt F))).Forall fun op => op.fresh = ∅ := forall_fresh_of_map rfl
/-- What `bSelH` writes, in order. -/
abbrev bSelH_W : List (Ref sig .tc) := [main_while1b_call7_v0, main_while1b_v70]
/-- `bSelH` writes only these. -/
theorem bSelH_writes : (bSelH : List (HloOp τ sig (Elt F))).Forall fun op => op.writes ⊆ (bSelH_W.map (Proc.devRef (τ := τ) .tc)).toFinset :=
  forall_writes_sub_of_map rfl

/-- The cell state kept where the sequence has ended. -/
abbrev bSelC : List (HloOp τ sig (Elt F)) :=
  ( StableHlo.TRef.unary (.of main_while1b_v30 : TRef sig ⟨S16x1, .i1⟩) (.of main_while1b_call8_v0 : TRef sig ⟨S16x256, .i1⟩) (broadcastInDim S16x256 ![0, 1] bcast_S16x1_S16x256_0_1)
  :: StableHlo.TRef.ternary (.of main_while1b_call8_v0 : TRef sig ⟨S16x256, .i1⟩) (.of main_while1b_v61 : TRef sig ⟨S16x256, .f32⟩) (.of main_v25_8 : TRef sig ⟨S16x256, .f32⟩) (.of main_while1b_v71 : TRef sig ⟨S16x256, .f32⟩) select
  :: [] )
/-- The operations of `bSelC` use buffers of the one core. -/
theorem bSelC_sub : (bSelC : List (HloOp τ sig (Elt F))).Forall fun op => op.bufs ⊆ tcRefs τ sig :=
  ⟨unary_bufs_sub .., ternary_bufs_sub ..⟩
/-- The operations of `bSelC` make no new buffer. -/
theorem bSelC_fresh : (bSelC : List (HloOp τ sig (Elt F))).Forall fun op => op.fresh = ∅ := forall_fresh_of_map rfl
/-- What `bSelC` writes, in order. -/
abbrev bSelC_W : List (Ref sig .tc) := [main_while1b_call8_v0, main_while1b_v71]
/-- `bSelC` writes only these. -/
theorem bSelC_writes : (bSelC : List (HloOp τ sig (Elt F))).Forall fun op => op.writes ⊆ (bSelC_W.map (Proc.devRef (τ := τ) .tc)).toFinset :=
  forall_writes_sub_of_map rfl

/-- The trip's hidden state stored. -/
abbrev bYs : List (HloOp τ sig (Elt F)) :=
  ( StableHlo.TRef.unary (.of main_while1b_v70 : TRef sig ⟨S16x256, .f32⟩) (.of main_while1b_call9_v0 : TRef sig ⟨S1x16x256, .f32⟩) (broadcastInDim S1x16x256 ![1, 2] bcast_S16x256_S1x16x256_1_2)
  :: StableHlo.TRef.nullary (.of main_while1b_call9_c : TRef sig ⟨S_, .i32⟩) (constantI S_ 32 0#32)
  :: StableHlo.TRef.nullary (.of main_while1b_call9_c_0 : TRef sig ⟨S_, .i32⟩) (constantI S_ 32 0#32)
  :: StableHlo.TRef.binaryIndexed (.of main_v25_9 : TRef sig ⟨S2048x16x256, .f32⟩) (.of main_while1b_call9_v0 : TRef sig ⟨S1x16x256, .f32⟩) ![(.of main_while1b_v28 : TRef sig ⟨S_, .i32⟩), (.of main_while1b_call9_c : TRef sig ⟨S_, .i32⟩), (.of main_while1b_call9_c_0 : TRef sig ⟨S_, .i32⟩)] (.of main_while1b_v72 : TRef sig ⟨S2048x16x256, .f32⟩) (fun x u i => Host.dynamicUpdateSlice x u (fun k => (i k (Shape.Idx.first h_S_)).toInt) updateFits_S2048x16x256_S1x16x256)
  :: [] )
/-- The operations of `bYs` use buffers of the one core. -/
theorem bYs_sub : (bYs : List (HloOp τ sig (Elt F))).Forall fun op => op.bufs ⊆ tcRefs τ sig :=
  ⟨unary_bufs_sub .., nullary_bufs_sub .., nullary_bufs_sub .., binaryIndexed_bufs_sub ..⟩
/-- The operations of `bYs` make no new buffer. -/
theorem bYs_fresh : (bYs : List (HloOp τ sig (Elt F))).Forall fun op => op.fresh = ∅ := forall_fresh_of_map rfl
/-- What `bYs` writes, in order. -/
abbrev bYs_W : List (Ref sig .tc) := [main_while1b_call9_v0, main_while1b_call9_c, main_while1b_call9_c_0, main_while1b_v72]
/-- `bYs` writes only these. -/
theorem bYs_writes : (bYs : List (HloOp τ sig (Elt F))).Forall fun op => op.writes ⊆ (bYs_W.map (Proc.devRef (τ := τ) .tc)).toFinset :=
  forall_writes_sub_of_map rfl

/-- The counter's step and the carried values handed on. -/
abbrev bNext : List (HloOp τ sig (Elt F)) :=
  ( StableHlo.nullary main_while1b_c_23 (constantI S_ 32 1#32)
  :: StableHlo.binary main_v25_6 main_while1b_c_23 main_while1b_v73 (addi : (⟨S_, .i32⟩ : BufTy).Contents (Elt F) → (⟨S_, .i32⟩ : BufTy).Contents (Elt F) → (⟨S_, .i32⟩ : BufTy).Contents (Elt F))
  :: StableHlo.unary main_while1b_v73 main_v25_6 id
  :: StableHlo.unary main_while1b_v70 main_v25_7 id
  :: StableHlo.unary main_while1b_v71 main_v25_8 id
  :: StableHlo.unary main_while1b_v72 main_v25_9 id
  :: [] )
/-- The operations of `bNext` use buffers of the one core. -/
theorem bNext_sub : (bNext : List (HloOp τ sig (Elt F))).Forall fun op => op.bufs ⊆ tcRefs τ sig :=
  ⟨nullary_bufs_sub .., binary_bufs_sub .., unary_bufs_sub .., unary_bufs_sub .., unary_bufs_sub .., unary_bufs_sub ..⟩
/-- The operations of `bNext` make no new buffer. -/
theorem bNext_fresh : (bNext : List (HloOp τ sig (Elt F))).Forall fun op => op.fresh = ∅ := forall_fresh_of_map rfl
/-- What `bNext` writes, in order. -/
abbrev bNext_W : List (Ref sig .tc) := [main_while1b_c_23, main_while1b_v73, main_v25_6, main_v25_7, main_v25_8, main_v25_9]
/-- `bNext` writes only these. -/
theorem bNext_writes : (bNext : List (HloOp τ sig (Elt F))).Forall fun op => op.writes ⊆ (bNext_W.map (Proc.devRef (τ := τ) .tc)).toFinset :=
  forall_writes_sub_of_map rfl

/-- The body's stretches. -/
abbrev bodyA : List (List (HloOp τ sig (Elt F))) := [aRow, aValid, aGates, aCell, aHid, aSelH, aSelC, aYs, aNext]
theorem bodyA_plain : Plain (bodyA (F := F)) :=
  .cons aRow_sub (hf := List.forall_iff_forall_mem.mp aRow_fresh) (.cons aValid_sub (hf := List.forall_iff_forall_mem.mp aValid_fresh) (.cons aGates_sub (hf := List.forall_iff_forall_mem.mp aGates_fresh) (.cons aCell_sub (hf := List.forall_iff_forall_mem.mp aCell_fresh) (.cons aHid_sub (hf := List.forall_iff_forall_mem.mp aHid_fresh) (.cons aSelH_sub (hf := List.forall_iff_forall_mem.mp aSelH_fresh) (.cons aSelC_sub (hf := List.forall_iff_forall_mem.mp aSelC_fresh) (.cons aYs_sub (hf := List.forall_iff_forall_mem.mp aYs_fresh) (.cons aNext_sub (hf := List.forall_iff_forall_mem.mp aNext_fresh) (.nil)))))))))

/-- The body's stretches. -/
abbrev bodyB : List (List (HloOp τ sig (Elt F))) := [bTime, bRow, bValid, bGates, bCell, bHid, bSelH, bSelC, bYs, bNext]
theorem bodyB_plain : Plain (bodyB (F := F)) :=
  .cons bTime_sub (hf := List.forall_iff_forall_mem.mp bTime_fresh) (.cons bRow_sub (hf := List.forall_iff_forall_mem.mp bRow_fresh) (.cons bValid_sub (hf := List.forall_iff_forall_mem.mp bValid_fresh) (.cons bGates_sub (hf := List.forall_iff_forall_mem.mp bGates_fresh) (.cons bCell_sub (hf := List.forall_iff_forall_mem.mp bCell_fresh) (.cons bHid_sub (hf := List.forall_iff_forall_mem.mp bHid_fresh) (.cons bSelH_sub (hf := List.forall_iff_forall_mem.mp bSelH_fresh) (.cons bSelC_sub (hf := List.forall_iff_forall_mem.mp bSelC_fresh) (.cons bYs_sub (hf := List.forall_iff_forall_mem.mp bYs_fresh) (.cons bNext_sub (hf := List.forall_iff_forall_mem.mp bNext_fresh) (.nil))))))))))

theorem pre_plain : Plain ([preOps] : List (List (HloOp τ sig (Elt F)))) := .cons preOps_sub (hf := List.forall_iff_forall_mem.mp preOps_fresh) .nil
theorem mid_plain : Plain ([midOps] : List (List (HloOp τ sig (Elt F)))) := .cons midOps_sub (hf := List.forall_iff_forall_mem.mp midOps_fresh) .nil
theorem post_plain : Plain ([postOps] : List (List (HloOp τ sig (Elt F)))) := .cons postOps_sub (hf := List.forall_iff_forall_mem.mp postOps_fresh) .nil

/-- The main function is its stretches and its loops in order. -/
theorem main_chain (c : Dev nD) : main (F := F) c = (Pipeline.chain
    [seq preOps, HostLoop.enter 0, seq midOps, HostLoop.enter 1, seq postOps] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl

/-- The loop's body is its stretches in order. -/
theorem bodyA_chain : main_while0_body (F := F) = (Pipeline.chain
    [seq aRow, seq aValid, seq aGates, seq aCell, seq aHid, seq aSelH, seq aSelC, seq aYs, seq aNext] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, chain_seq_cons, chain_seq_cons, Pipeline.chain_cons, Pipeline.chain_cons, Pipeline.chain_cons, chain_seq_cons]
  chain_rfl

/-- The loop's body is its stretches in order. -/
theorem bodyB_chain : main_while1_body (F := F) = (Pipeline.chain
    [seq bTime, seq bRow, seq bValid, seq bGates, seq bCell, seq bHid, seq bSelH, seq bSelC, seq bYs, seq bNext] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, chain_seq_cons, chain_seq_cons, chain_seq_cons, Pipeline.chain_cons, Pipeline.chain_cons, Pipeline.chain_cons, chain_seq_cons]
  chain_rfl

end Cert.ReferenceIdeal.Two

end
-- ==== Proof.TwoLoops.lean ====
/- The run of a program of host operations only whose main function is stretches, a counted loop, stretches, a second
   counted loop and stretches. Both loops' contents are the library's folds; the counters are concluded as well. -/
module

public import Idealize.ShloMosaic.Lib.StableHlo.RunLoop

@[expose] public section

noncomputable section

namespace Cert.TwoLoops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs)

variable {nD : Nat} {τ : Topo} {sig : RefSig} {F : FTy → Type} {Λ₀ : Idealize.SL.Sem.Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

/-- No pipeline admits anything. -/
abbrev noAdm : (p : Fin 0) → (pcs p).Adm := fun p => p.elim0

/-- No launch takes a ticket. -/
abbrev noTk : Fin 0 → Ticket (Ix := Unit) (Name := ℕ) (U := Option PUnit) (Lvl := ℕ) (nD := nD) (τ := τ) pcs (noAdm pcs) :=
  fun j => j.elim0

/-- No cell has an index. -/
abbrev noIx : GSem nD τ sig → Finset Unit := fun _ => ∅

/-- Every cell is at level zero. -/
abbrev noLv : GSem nD τ sig → Unit → ℕ := fun _ _ => 0

/-- What passes every segment beside the buffers: the core owes nothing. -/
abbrev debtFree (c : Dev nD) : sProp 𝕄 := iprop(∃ W, owes (c : Thread nD τ) (0 : CellTallies nD τ sig Unit) W)

variable {pcs defs₀ loops}

/-- A loop condition proved of the buffers alone holds beside the core's debts. -/
theorem condBeside {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (h : CondSpec pcs defs₀ loops cond condOps bodyI W₀ n) :
    LoopCond pcs defs₀ Variants.none loops debtFree cond condOps bodyI W₀ n := by
  intro k hk c bd
  refine (show _ ⊢ iprop(iprop(boundary (c : Thread nD τ) ∗ held (c : Thread nD τ) (ucRefs τ sig) (atTrip condOps bodyI W₀ k c)) ∗ debtFree c) from ?_).trans
    ((sep_mono_left (h k hk c bd)).trans ((wp_frame_r _ _ _).trans (wp_mono _ _ _ fun v => ?_)))
  · iintro ⟨H1, H2, H3⟩
    isplitl [H1 H2]
    · isplitl [H1] <;> iassumption
    · iexact H3
  · iintro ⟨⟨%hv, H1, H2⟩, H3⟩
    isplitr
    · ipureintro; exact hv
    isplitl [H1]
    · iexact H1
    isplitl [H2] <;> iassumption

variable (pcs defs₀ loops)

/-- What one counted loop of the program is: its label, condition and body with their operations, and its trips. -/
structure Loop where
  /-- the loop's label -/
  l : Fin nL
  /-- the condition region -/
  cond : Prog (TpuEff nD τ sig (Elt F) (HostLoop.Sig (Pipeline.Sig Λ₀ (Fin 0) fun p => (pcs p).Adm) nL) .tc) (Elt F .i1)
  /-- the body region -/
  body : Prog (TpuEff nD τ sig (Elt F) (HostLoop.Sig (Pipeline.Sig Λ₀ (Fin 0) fun p => (pcs p).Adm) nL) .tc) PUnit
  hloops : loops l = HostLoop.step l cond body
  /-- the condition's operations -/
  condOps : List (HloOp τ sig (Elt F))
  /-- the body's stretches -/
  bodyI : List (List (HloOp τ sig (Elt F)))
  hbodyI : Plain bodyI
  hbody : body = Pipeline.chain (bodyI.map fun ops => (seq ops : Prog _ PUnit))
  /-- the number of trips -/
  n : ℕ

variable {pcs loops}

/-- The buffers when a loop entered at `W` is left. -/
abbrev Loop.leave (L : Loop (nD := nD) (τ := τ) pcs loops) (W : Dev nD → Valuation τ sig (Elt F)) (c : Dev nD) : Valuation τ sig (Elt F) :=
  after L.condOps (atTrip L.condOps L.bodyI W L.n c)

/-- The specification of a loop's condition when the loop is entered at `W`. -/
abbrev Loop.Cond (L : Loop (nD := nD) (τ := τ) pcs loops) (W : Dev nD → Valuation τ sig (Elt F)) : Prop :=
  CondSpec pcs defs₀ loops L.cond L.condOps L.bodyI W L.n

variable {defs₀}

/-- A loop as one segment. -/
def Loop.seg (L : Loop (nD := nD) (τ := τ) pcs loops) (W : Dev nD → Valuation τ sig (Elt F)) (h : L.Cond defs₀ W) :
    CSeg pcs (noAdm pcs) defs₀ Variants.none noIx noLv loops (noTk pcs) :=
  loopSeg _ _ _ _ _ _ _ _ L.l L.cond L.body L.hloops L.condOps L.bodyI L.hbodyI L.hbody L.n W debtFree (condBeside h)

/-- Stretches as segments. -/
abbrev stretch (items : List (List (HloOp τ sig (Elt F)))) (h : Plain items) (W : Dev nD → Valuation τ sig (Elt F)) :
    List (CSeg pcs (noAdm pcs) defs₀ Variants.none noIx noLv loops (noTk pcs)) :=
  segsOf _ _ _ _ _ _ _ _ debtFree items h W

/-- The contents when the main function ends: stretches `a`, loop `A`, stretches `b`, loop `B`, stretches `d`. -/
abbrev fin (a b d : List (List (HloOp τ sig (Elt F)))) (A B : Loop (nD := nD) (τ := τ) pcs loops)
    (m : (ℓ : Loc nD τ sig) → Buf (Elt F) ℓ) (c : Dev nD) : Valuation τ sig (Elt F) :=
  afterL d (B.leave (fun c => afterL b (A.leave (fun c => afterL a (launchContents m c)) c)) c)

/-- THE RUN. From any memory with zero counters every weakly fair execution terminates, every buffer that is not scoped
    holds what the folds say, and every counter that only another thread or a scoped buffer could have moved is zero. -/
theorem run [∀ e, Nonempty (Elt F e)] (main : Dev nD → Prog (TpuEff nD τ sig (Elt F) (HostLoop.Sig (Pipeline.Sig Λ₀ (Fin 0) fun p => (pcs p).Adm) nL) .tc) PUnit)
    (a b d : List (List (HloOp τ sig (Elt F)))) (ha : Plain a) (hb : Plain b) (hd : Plain d)
    (A B : Loop (nD := nD) (τ := τ) pcs loops)
    (hmain : ∀ c, main c = Pipeline.chain ((a.map fun ops => (seq ops : Prog _ PUnit)) ++ HostLoop.enter A.l ::
      ((b.map fun ops => (seq ops : Prog _ PUnit)) ++ HostLoop.enter B.l :: d.map fun ops => (seq ops : Prog _ PUnit))))
    (m : (ℓ : Loc nD τ sig) → Buf (Elt F) ℓ) (ρ : Dev nD → PrngReg)
    (hA : A.Cond defs₀ (fun c => afterL a (launchContents m c)))
    (hB : B.Cond defs₀ (fun c => afterL b (A.leave (fun c => afterL a (launchContents m c)) c))) :
    θ_run (HostLoop.defs loops (Pipeline.defs pcs defs₀)) (onTc (τ := τ) main) ⟨m, fun _ => 0, ρ⟩ fun r =>
      (∀ (c : Dev nD) (x : Ref sig .tc), (Proc.devRef .tc x : DevRef τ sig).isScoped = false →
        r.2.mem ((c.tc : Thread nD τ).loc x) = fin a b d A B m c (Proc.devRef .tc x))
      ∧ ∀ g : GSem nD τ sig, (g.1.2 ≠ .tc ∨ g.2.isScoped .tc = true) → r.2.sem g = 0 := by
  let segs : List (CSeg pcs (noAdm pcs) defs₀ Variants.none noIx noLv loops (noTk (nD := nD) (τ := τ) pcs)) :=
    stretch a ha (launchContents m) ++ A.seg _ hA :: (stretch b hb (fun c => A.leave (fun c => afterL a (launchContents m c)) c)
      ++ B.seg _ hB :: stretch d hd (fun c => B.leave (fun c => afterL b (A.leave (fun c => afterL a (launchContents m c)) c)) c))
  have hprog : segs.map CSeg.prog = (a.map fun ops => (seq ops : Prog _ PUnit)) ++ HostLoop.enter A.l ::
      ((b.map fun ops => (seq ops : Prog _ PUnit)) ++ HostLoop.enter B.l :: d.map fun ops => (seq ops : Prog _ PUnit)) := by
    simp only [segs]
    rw [List.map_append, List.map_cons, List.map_append, List.map_cons, segsOf_prog, segsOf_prog, segsOf_prog]
    rfl
  refine Pipeline.θ_run_regions_loop_kit_sems (Ix := Unit) (Name := ℕ) (U := Option PUnit) (Lvl := ℕ) (J := Fin 0) (P := Fin 0) (Val := Elt F)
    pcs (noAdm pcs) (fun k => k.1.elim0) defs₀ Variants.none noIx noLv loops (noTk pcs) m ρ main segs
    (fun c Q => ?_) (CSeg.pairwise_disjoint_of_T_empty _ fun s _ => Finset.eq_empty_of_isEmpty s.T) (O₀ := 0) (fun _ _ => rfl)
    (G := fun _ => iprop(emp)) (u₀ := 1) ?_
    (T₀ := fun c => iprop(held (c : Thread nD τ) (ucRefs τ sig) (launchContents m c) ∗ debtFree c))
    (Tₙ := fun c => iprop(held (c : Thread nD τ) (ucRefs τ sig) (fin a b d A B m c)))
    (hch := CSeg.Chains.append (segsOf_chains _ _ _ _ _ _ _ _ debtFree a ha _) ⟨fun _ => .rfl,
      CSeg.Chains.append (segsOf_chains _ _ _ _ _ _ _ _ debtFree b hb _) ⟨fun _ => .rfl, segsOf_chains _ _ _ _ _ _ _ _ debtFree d hd _⟩⟩)
    ?_ (QY := fun c s => ∀ x ∈ ucRefs τ sig, s.mem ((c : Dev nD), x) = fin a b d A B m c x) ?_
    (fun _ h hs => ⟨fun c x hx => h c _ (devRef_mem_ucRefs x hx), hs⟩)
  · rw [hmain c]
    show wp _ _ _ (Pipeline.chain (segs.map CSeg.prog)) Q ⊢ _
    rw [hprog]
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach noIx noLv fun c => ?_
    rw [show unscopedBufs c (fun b => m ((c : Thread nD τ).loc b)) = held (c : Thread nD τ) (ucRefs τ sig) (launchContents m c)
      from Pipeline.unscopedBufs_held c (launchContents m c)]
    iintro ⟨⟨Hh, -, HO, -, -, -⟩, -⟩
    imodintro
    isplitl [Hh]
    · iexact Hh
    · iexists ∅; iexact HO
  · intro c s'
    unfold held
    iintro ⟨Hh, HSI⟩
    ihave Hr := (pointsTo_read_all (ucRefs τ sig) (fun x => ((c : Dev nD), x)) (fun x => fin a b d A B m c x) s') $$ [Hh HSI]
    · isplitl [Hh] <;> iassumption
    icases Hr with ⟨%h, HSI⟩
    imodintro
    isplitr
    · ipureintro; exact h
    · iexact HSI

end Cert.TwoLoops

end
-- ==== Proof.RefRun.lean ====
/- The reference program's run: its two counted loops of 2048 trips each, what every buffer holds at the end, and which
   buffers are never written. -/
module

public import proofs.«01_k».proof.Proof.RefOps
public import proofs.«01_k».proof.Proof.TwoLoops
public import Idealize.ShloMosaic.Lib.Scf.ExitTest
public import Idealize.ShloMosaic.Lib.Scf.Counter
public import Idealize.ShloMosaic.Lib.Quiescent

@[expose] public section

noncomputable section

namespace Cert.ReferenceIdeal.Two

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- The first loop's condition: the bound, and the counter compared with it. -/
abbrev condA : List (HloOp τ sig (Elt F)) :=
  [ StableHlo.nullary main_while0c_c_15 (constantI S_ 32 2048#32),
    StableHlo.binary main_v12_6 main_while0c_c_15 main_while0c_v27 (cmpi .slt) ]
/-- What `condA` writes. -/
abbrev condA_W : List (Ref sig .tc) := [main_while0c_c_15, main_while0c_v27]
/-- The first loop's condition writes only these. -/
theorem condA_writes : (condA : List (HloOp τ sig (Elt F))).Forall fun op => op.writes ⊆ (condA_W.map (Proc.devRef (τ := τ) .tc)).toFinset :=
  forall_writes_sub_of_map rfl

/-- The second loop's condition: the bound, and the counter compared with it. -/
abbrev condB : List (HloOp τ sig (Elt F)) :=
  [ StableHlo.nullary main_while1c_c_15 (constantI S_ 32 2048#32),
    StableHlo.binary main_v25_6 main_while1c_c_15 main_while1c_v27 (cmpi .slt) ]
/-- What `condB` writes. -/
abbrev condB_W : List (Ref sig .tc) := [main_while1c_c_15, main_while1c_v27]
/-- The second loop's condition writes only these. -/
theorem condB_writes : (condB : List (HloOp τ sig (Elt F))).Forall fun op => op.writes ⊆ (condB_W.map (Proc.devRef (τ := τ) .tc)).toFinset :=
  forall_writes_sub_of_map rfl

/-- The first loop. -/
abbrev loopA : TwoLoops.Loop (nD := nD) (τ := τ) (pcfgs (F := F)) loops where
  l := 0
  cond := main_while0_cond
  body := main_while0_body
  hloops := rfl
  condOps := condA
  bodyI := bodyA
  hbodyI := bodyA_plain
  hbody := by rw [bodyA_chain]; rfl
  n := 2048

/-- The second loop. -/
abbrev loopB : TwoLoops.Loop (nD := nD) (τ := τ) (pcfgs (F := F)) loops where
  l := 1
  cond := main_while1_cond
  body := main_while1_body
  hloops := rfl
  condOps := condB
  bodyI := bodyB
  hbodyI := bodyB_plain
  hbody := by rw [bodyB_chain]; rfl
  n := 2048

/-! ## What a trip leaves alone -/

/-- What the first loop's body writes before its last stretch. -/
abbrev headA_W : List (Ref sig .tc) := aRow_W ++ aValid_W ++ aGates_W ++ aCell_W ++ aHid_W ++ aSelH_W ++ aSelC_W ++ aYs_W
/-- What the second loop's body writes before its last stretch. -/
abbrev headB_W : List (Ref sig .tc) := bTime_W ++ bRow_W ++ bValid_W ++ bGates_W ++ bCell_W ++ bHid_W ++ bSelH_W ++ bSelC_W ++ bYs_W

/-- A buffer that the first loop's body does not write before its last stretch is there as at the trip's start. -/
theorem headA_keep (V : Valuation τ sig (Elt F)) {r : Ref sig .tc} (h : r ∉ headA_W) :
    afterL [aRow, aValid, aGates, aCell, aHid, aSelH, aSelC, aYs] V (Proc.devRef .tc r) = V (Proc.devRef .tc r) := by
  simp only [headA_W, List.mem_append, not_or] at h
  obtain ⟨⟨⟨⟨⟨⟨⟨h1, h2⟩, h3⟩, h4⟩, h5⟩, h6⟩, h7⟩, h8⟩ := h
  simp only [afterL_cons, afterL_nil]
  rw [after_of_writes_sub _ _ aYs_writes h8, after_of_writes_sub _ _ aSelC_writes h7, after_of_writes_sub _ _ aSelH_writes h6,
    after_of_writes_sub _ _ aHid_writes h5, after_of_writes_sub _ _ aCell_writes h4, after_of_writes_sub _ _ aGates_writes h3,
    after_of_writes_sub _ _ aValid_writes h2, after_of_writes_sub _ _ aRow_writes h1]

/-- The second loop's like `headA_keep`. -/
theorem headB_keep (V : Valuation τ sig (Elt F)) {r : Ref sig .tc} (h : r ∉ headB_W) :
    afterL [bTime, bRow, bValid, bGates, bCell, bHid, bSelH, bSelC, bYs] V (Proc.devRef .tc r) = V (Proc.devRef .tc r) := by
  simp only [headB_W, List.mem_append, not_or] at h
  obtain ⟨⟨⟨⟨⟨⟨⟨⟨h0, h1⟩, h2⟩, h3⟩, h4⟩, h5⟩, h6⟩, h7⟩, h8⟩ := h
  simp only [afterL_cons, afterL_nil]
  rw [after_of_writes_sub _ _ bYs_writes h8, after_of_writes_sub _ _ bSelC_writes h7, after_of_writes_sub _ _ bSelH_writes h6,
    after_of_writes_sub _ _ bHid_writes h5, after_of_writes_sub _ _ bCell_writes h4, after_of_writes_sub _ _ bGates_writes h3,
    after_of_writes_sub _ _ bValid_writes h2, after_of_writes_sub _ _ bRow_writes h1, after_of_writes_sub _ _ bTime_writes h0]

/-- A buffer that neither the condition nor a trip writes is through the whole loop as at its entry. -/
theorem atTrip_keep {cW : List (Ref sig .tc)} {cond : List (HloOp τ sig (Elt F))} {body : List (List (HloOp τ sig (Elt F)))}
    (hc : cond.Forall fun op => op.writes ⊆ (cW.map (Proc.devRef (τ := τ) .tc)).toFinset) {r : Ref sig .tc} (hr : r ∉ cW)
    (hb : ∀ V : Valuation τ sig (Elt F), afterL body V (Proc.devRef .tc r) = V (Proc.devRef .tc r))
    (W : Dev nD → Valuation τ sig (Elt F)) (c : Dev nD) : ∀ k, atTrip cond body W k c (Proc.devRef .tc r) = W c (Proc.devRef .tc r)
  | 0 => rfl
  | k + 1 => by rw [atTrip_succ, hb, after_of_writes_sub _ _ hc hr, atTrip_keep hc hr hb W c k]

/-- What the first loop's body does not write. -/
theorem bodyA_keep (V : Valuation τ sig (Elt F)) {r : Ref sig .tc} (h : r ∉ headA_W) (h' : r ∉ aNext_W) :
    afterL bodyA V (Proc.devRef .tc r) = V (Proc.devRef .tc r) := by
  show after aNext (afterL [aRow, aValid, aGates, aCell, aHid, aSelH, aSelC, aYs] V) _ = _
  rw [after_of_writes_sub _ _ aNext_writes h', headA_keep V h]

/-- What the second loop's body does not write. -/
theorem bodyB_keep (V : Valuation τ sig (Elt F)) {r : Ref sig .tc} (h : r ∉ headB_W) (h' : r ∉ bNext_W) :
    afterL bodyB V (Proc.devRef .tc r) = V (Proc.devRef .tc r) := by
  show after bNext (afterL [bTime, bRow, bValid, bGates, bCell, bHid, bSelH, bSelC, bYs] V) _ = _
  rw [after_of_writes_sub _ _ bNext_writes h', headB_keep V h]

/-- The first loop leaves what it does not write. -/
theorem leaveA_keep (W : Dev nD → Valuation τ sig (Elt F)) (c : Dev nD) {r : Ref sig .tc} (h1 : r ∉ condA_W) (h2 : r ∉ headA_W)
    (h3 : r ∉ aNext_W) : loopA.leave W c (Proc.devRef .tc r) = W c (Proc.devRef .tc r) :=
  (after_of_writes_sub _ _ condA_writes h1).trans (atTrip_keep condA_writes h1 (fun V => bodyA_keep V h2 h3) W c _)

/-- The second loop leaves what it does not write. -/
theorem leaveB_keep (W : Dev nD → Valuation τ sig (Elt F)) (c : Dev nD) {r : Ref sig .tc} (h1 : r ∉ condB_W) (h2 : r ∉ headB_W)
    (h3 : r ∉ bNext_W) : loopB.leave W c (Proc.devRef .tc r) = W c (Proc.devRef .tc r) :=
  (after_of_writes_sub _ _ condB_writes h1).trans (atTrip_keep condB_writes h1 (fun V => bodyB_keep V h2 h3) W c _)

/-! ## The counters -/

/-- A counter set to zero before a loop and stepped by one in each trip is the trip's number. -/
theorem counter {cond : List (HloOp τ sig (Elt F))} {body : List (List (HloOp τ sig (Elt F)))} {W : Dev nD → Valuation τ sig (Elt F)} {c : Dev nD}
    (get : Valuation τ sig (Elt F) → S_.Idx → BitVec 32) (h0 : get (W c) = fun _ => 0#32)
    (hs : ∀ V, get (afterL body (after cond V)) = addi (get V) (constantI S_ 32 1#32)) :
    ∀ k, get (atTrip cond body W k c) = fun _ => Scf.iv 0#32 1#32 k
  | 0 => by rw [atTrip_zero, h0, Scf.iv_zero]
  | k + 1 => by
    rw [atTrip_succ, hs, counter get h0 hs k, Scf.iv_succ]
    rfl

set_option maxRecDepth 100000 in
/-- A trip of the first loop moves its counter on by one. -/
theorem stepA (V : Valuation τ sig (Elt F)) :
    afterL bodyA (after condA V) (Proc.devRef .tc main_v12_6) = addi (V (Proc.devRef .tc main_v12_6)) (constantI S_ 32 1#32) := by
  show after aNext (afterL [aRow, aValid, aGates, aCell, aHid, aSelH, aSelC, aYs] (after condA V)) (Proc.devRef .tc main_v12_6) = _
  have h := headA_keep (after condA V) (r := main_v12_6) (by decide +kernel)
  rw [after_of_writes_sub _ _ condA_writes (by decide +kernel)] at h
  rw [← h]
  generalize afterL [aRow, aValid, aGates, aCell, aHid, aSelH, aSelC, aYs] (after condA V) = X
  after_results
  rfl

set_option maxRecDepth 100000 in
/-- A trip of the second loop moves its counter on by one. -/
theorem stepB (V : Valuation τ sig (Elt F)) :
    afterL bodyB (after condB V) (Proc.devRef .tc main_v25_6) = addi (V (Proc.devRef .tc main_v25_6)) (constantI S_ 32 1#32) := by
  show after bNext (afterL [bTime, bRow, bValid, bGates, bCell, bHid, bSelH, bSelC, bYs] (after condB V)) (Proc.devRef .tc main_v25_6) = _
  have h := headB_keep (after condB V) (r := main_v25_6) (by decide +kernel)
  rw [after_of_writes_sub _ _ condB_writes (by decide +kernel)] at h
  rw [← h]
  generalize afterL [bTime, bRow, bValid, bGates, bCell, bHid, bSelH, bSelC, bYs] (after condB V) = X
  after_results
  rfl

variable (m : (ℓ : Loc nD τ sig) → Buf (Elt F) ℓ) (ρ : Dev nD → PrngReg)

/-- The buffers at the first loop's entry. -/
abbrev entryA (c : Dev nD) : Valuation τ sig (Elt F) := afterL [preOps] (launchContents m c)
/-- The buffers at the second loop's entry. -/
abbrev entryB (c : Dev nD) : Valuation τ sig (Elt F) := afterL [midOps] (loopA.leave (entryA m) c)

/-- The first loop's counter before trip `k`. -/
theorem counterA (c : Dev nD) (k : ℕ) : atTrip condA bodyA (entryA m) k c (Proc.devRef .tc main_v12_6) = fun _ => Scf.iv 0#32 1#32 k := by
  refine counter (fun V => V (Proc.devRef .tc main_v12_6)) ?_ stepA k
  simp only [entryA, afterL_cons, afterL_nil]
  after_reads_simp
  rfl

/-- The second loop's counter before trip `k`. -/
theorem counterB (c : Dev nD) (k : ℕ) : atTrip condB bodyB (entryB m) k c (Proc.devRef .tc main_v25_6) = fun _ => Scf.iv 0#32 1#32 k := by
  refine counter (fun V => V (Proc.devRef .tc main_v25_6)) ?_ stepB k
  simp only [entryB, afterL_cons, afterL_nil]
  generalize loopA.leave (entryA m) c = X
  after_reads_simp
  rfl

set_option backward.isDefEq.respectTransparency.types false in
/-- The first loop's condition holds exactly before its 2048 trips. -/
theorem condA_spec : loopA.Cond defs₀ (entryA m) := by
  intro k hk c bd
  have hctr := counterA m c k
  show _ ⊢ wp _ _ _ main_while0_cond _
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condA bodyA (entryA m) k c) main_v12_6 HostLoop.idx0)
        (HloOp.result _ (atTrip condA bodyA (entryA m) k c) main_while0c_c_15 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

set_option backward.isDefEq.respectTransparency.types false in
/-- The second loop's condition holds exactly before its 2048 trips. -/
theorem condB_spec : loopB.Cond defs₀ (entryB m) := by
  intro k hk c bd
  have hctr := counterB m c k
  show _ ⊢ wp _ _ _ main_while1_cond _
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condB bodyB (entryB m) k c) main_v25_6 HostLoop.idx0)
        (HloOp.result _ (atTrip condB bodyB (entryB m) k c) main_while1c_c_15 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  rw [after_cons, after_cons, after_nil]; iexact Hh

/-- Every buffer's contents when the reference ends. -/
abbrev last (c : Dev nD) : Valuation τ sig (Elt F) := afterL [postOps] (loopB.leave (entryB m) c)

/-- THE REFERENCE'S RUN: it terminates with every buffer that is not scoped at `last`, and every counter zero. -/
theorem run [∀ e, Nonempty (Elt F e)] : θ_run (defs (F := F)) (onTc (τ := τ) (main (F := F))) ⟨m, fun _ => 0, ρ⟩ fun r =>
    (∀ (c : Dev nD) (x : Ref sig .tc), (Proc.devRef .tc x : DevRef τ sig).isScoped = false →
      r.2.mem ((c.tc : Thread nD τ).loc x) = last m c (Proc.devRef .tc x)) ∧ r.2.sem = fun _ => 0 :=
  (θ_run _ _ _).mono (fun r h => ⟨h.1, sem_eq_zero_of_no_sems rfl _⟩)
    (TwoLoops.run (pcs := pcfgs (F := F)) (defs₀ := defs₀) (loops := loops) main [preOps] [midOps] [postOps] pre_plain mid_plain post_plain loopA loopB
      (fun c => by rw [main_chain]; rfl) m ρ (condA_spec m) (condB_spec m))

/-- A buffer that no stretch and no loop writes ends as it was. -/
theorem last_keep (c : Dev nD) {r : Ref sig .tc}
    (h : r ∉ preOps_W ++ condA_W ++ headA_W ++ aNext_W ++ midOps_W ++ condB_W ++ headB_W ++ bNext_W ++ postOps_W) :
    last m c (Proc.devRef .tc r) = m ((c.tc : Thread nD τ).loc r) := by
  rw [List.mem_append, List.mem_append, List.mem_append, List.mem_append, List.mem_append, List.mem_append, List.mem_append, List.mem_append] at h
  simp only [not_or] at h
  obtain ⟨⟨⟨⟨⟨⟨⟨⟨h1, h2⟩, h3⟩, h4⟩, h5⟩, h6⟩, h7⟩, h8⟩, h9⟩ := h
  show after postOps (loopB.leave (entryB m) c) _ = _
  rw [after_of_writes_sub _ _ postOps_writes h9, leaveB_keep _ _ h6 h7 h8]
  show after midOps (loopA.leave (entryA m) c) _ = _
  rw [after_of_writes_sub _ _ midOps_writes h5, leaveA_keep _ _ h2 h3 h4]
  exact after_of_writes_sub _ _ preOps_writes h1

end Cert.ReferenceIdeal.Two

end
-- ==== Proof.RefFrame.lean ====
/- The reference ends with its ten arguments as they were and every counter zero. -/
module

public import proofs.«01_k».proof.Defs
public import proofs.«01_k».proof.Proof.RefRun

@[expose] public section

noncomputable section

namespace Cert.ReferenceIdeal.Two

open Cert.ReferenceIdeal Cert.ReferenceIdeal.Gen
open Idealize.ShloMosaic Idealize.ShloMosaic.TcCoe Idealize.SL.Sem Idealize.ShloMosaic.StableHlo

/-- No stretch and no loop writes an argument. -/
theorem args_kept (m : (ℓ : Loc nD τ sig) → Buf (Elt Ideal) ℓ) (c : Dev nD) :
    last m c (Proc.devRef .tc main_arg0) = m ((c.tc : Thread nD τ).loc main_arg0)
    ∧ last m c (Proc.devRef .tc main_arg1) = m ((c.tc : Thread nD τ).loc main_arg1)
    ∧ last m c (Proc.devRef .tc main_arg2) = m ((c.tc : Thread nD τ).loc main_arg2)
    ∧ last m c (Proc.devRef .tc main_arg3) = m ((c.tc : Thread nD τ).loc main_arg3)
    ∧ last m c (Proc.devRef .tc main_arg4) = m ((c.tc : Thread nD τ).loc main_arg4)
    ∧ last m c (Proc.devRef .tc main_arg5) = m ((c.tc : Thread nD τ).loc main_arg5)
    ∧ last m c (Proc.devRef .tc main_arg6) = m ((c.tc : Thread nD τ).loc main_arg6)
    ∧ last m c (Proc.devRef .tc main_arg7) = m ((c.tc : Thread nD τ).loc main_arg7)
    ∧ last m c (Proc.devRef .tc main_arg8) = m ((c.tc : Thread nD τ).loc main_arg8)
    ∧ last m c (Proc.devRef .tc main_arg9) = m ((c.tc : Thread nD τ).loc main_arg9) := by
  refine ⟨?_, ?_, ?_, ?_, ?_, ?_, ?_, ?_, ?_, ?_⟩ <;> exact last_keep m c (by decide +kernel)

/-- The reference ends with its result as its operations say and its arguments as they were. -/
theorem run_args (m : (ℓ : Loc nD τ sig) → Buf (Elt Ideal) ℓ) (g : Dev nD → PrngReg) :
    θ_run (defs (F := Ideal)) (onTc (τ := τ) (main (F := Ideal))) ⟨m, fun _ => 0, g⟩ fun r => (∀ c : Dev nD,
      r.2.mem ((c.tc : Thread nD τ).loc main_v26) = last m c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 := by
  refine (θ_run _ _ _).mono (fun r h => ⟨fun c => ⟨h.1 c main_v26 rfl, ?_⟩, h.2⟩) (run (F := Ideal) m g)
  obtain ⟨h0, h1, h2, h3, h4, h5, h6, h7, h8, h9⟩ := args_kept m c
  exact ⟨(h.1 c _ rfl).trans h0, (h.1 c _ rfl).trans h1, (h.1 c _ rfl).trans h2, (h.1 c _ rfl).trans h3, (h.1 c _ rfl).trans h4,
    (h.1 c _ rfl).trans h5, (h.1 c _ rfl).trans h6, (h.1 c _ rfl).trans h7, (h.1 c _ rfl).trans h8, (h.1 c _ rfl).trans h9⟩

/-- The reference's frame. -/
theorem frame : Cert.quiescent_ReferenceIdeal := fun m g _ =>
  (θ_run _ _ _).mono (fun _ h => ⟨fun c => (h.1 c).2, h.2⟩) (run_args m g)

end Cert.ReferenceIdeal.Two

end
-- ==== Proof.Step.lean ====
/- One time step of one direction of the recurrence as the kernel computes it, on whole 16 x 256 vectors, and the sixteen
   steps that one trip of the kernel's loop makes. -/
module

public import proofs.«01_k».proof.Proof.Gen.KernelIdeal.Loops

@[expose] public section

noncomputable section

namespace Cert.KernelIdeal.Gen

open Idealize.ShloMosaic Idealize.ShloMosaic.TcCoe
open Idealize.SL Idealize.SL.Sem

variable {F : FTy → Type} [FloatOps F]

/-- A hidden state and a cell state, 16 x 256 each. -/
abbrev HC (F : FTy → Type) := Vec F S16x256 .f32 × Vec F S16x256 .f32

/-- The four gates before their activations: the input's part `x` and the hidden state through the recurrent weights. -/
def kGates (w : FVec F S256x1024 .bf16) (x : Vec F S16x1024 .f32) (h : Vec F S16x256 .f32) : FVec F S16x1024 .f32 :=
  addf x (matmul dot_S16x256_S256x1024_S16x1024_1_0_0_1_n_n none (truncf .bf16 h bitsLt_bf16_f32) w
    (constant S16x1024 .f32 0x00000000#32))

/-- The new cell state. -/
def kCell (w : FVec F S256x1024 .bf16) (x : Vec F S16x1024 .f32) (s : HC F) : FVec F S16x256 .f32 :=
  addf (mulf (logistic (extractStridedSlice S16x256 ![0, 256] (kGates w x s.1) slices_S16x1024_o0_256_S16x256)) s.2)
    (mulf (logistic (extractStridedSlice S16x256 ![0, 0] (kGates w x s.1) slices_S16x1024_o0_0_S16x256))
      (tanh (extractStridedSlice S16x256 ![0, 512] (kGates w x s.1) slices_S16x1024_o0_512_S16x256)))

/-- The new hidden state. -/
def kHid (w : FVec F S256x1024 .bf16) (x : Vec F S16x1024 .f32) (s : HC F) : FVec F S16x256 .f32 :=
  mulf (logistic (extractStridedSlice S16x256 ![0, 768] (kGates w x s.1) slices_S16x1024_o0_768_S16x256))
    (tanh (kCell w x s))

/-- One step at time `t`: the sequences longer than `t` take their new states and the others keep theirs. -/
def kStep (lens : IVec S16x256 32) (w : FVec F S256x1024 .bf16) (t : BitVec 32) (x : Vec F S16x1024 .f32) (s : HC F) : HC F :=
  (select (cmpi .sgt lens (broadcast S16x256 t)) (kHid w x s) s.1,
   select (cmpi .sgt lens (broadcast S16x256 t)) (kCell w x s) s.2)

/-- The rows that step `u` of trip `k` reads of the forward scratch buffer. -/
def rowsF (arg11 : Memref sig .tc .vmem S1024x1024 .f32) (X : BufTy.Contents (Elt F) arg11.view.ty)
    (k : Fin k0_t1_loop.trips) (u : Fin 16) : Vec F S16x1024 .f32 :=
  View.readAt (Elt F) arg11.view
    (Rect.unit (s := S1024x1024) (k0_off1 k (BitVec.ofNat 32 u.val)) S16x1024.size (k0_off1_inb k u)).toLoadRect X

/-- The rows that step `u` of trip `k` reads of the backward scratch buffer. -/
def rowsB (arg12 : Memref sig .tc .vmem S1024x1024 .f32) (X : BufTy.Contents (Elt F) arg12.view.ty)
    (k : Fin k0_t1_loop.trips) (u : Fin 16) : Vec F S16x1024 .f32 :=
  View.readAt (Elt F) arg12.view
    (Rect.unit (s := S1024x1024) (k0_off2 k (BitVec.ofNat 32 u.val)) S16x1024.size (k0_off2_inb k u)).toLoadRect X

/-- The step's number inside its block of 64: sixteen times the trip and the step of the trip. -/
def subNo (k : Fin k0_t1_loop.trips) (u : Fin 16) : BitVec 32 :=
  Scalar.addi (Scalar.muli (Scf.iv 0#32 1#32 k) 16#32) (BitVec.ofNat 32 u.val)

/-- Step `u` of trip `k`, forwards. -/
def fStep (lens : IVec S16x256 32) (w : FVec F S256x1024 .bf16) (v39 : BitVec 32)
    (arg11 : Memref sig .tc .vmem S1024x1024 .f32) (X : BufTy.Contents (Elt F) arg11.view.ty)
    (k : Fin k0_t1_loop.trips) (s : HC F) (u : Fin 16) : HC F :=
  kStep lens w (Scalar.addi v39 (subNo k u)) (rowsF arg11 X k u) s

/-- Step `u` of trip `k`, backwards. -/
def bStep (lens : IVec S16x256 32) (w : FVec F S256x1024 .bf16) (v41 : BitVec 32)
    (arg12 : Memref sig .tc .vmem S1024x1024 .f32) (X : BufTy.Contents (Elt F) arg12.view.ty)
    (k : Fin k0_t1_loop.trips) (s : HC F) (u : Fin 16) : HC F :=
  kStep lens w (Scalar.addi v41 (Scalar.subi 63#32 (subNo k u))) (rowsB arg12 X k u) s

/-- The steps of one trip in order. -/
abbrev sixteen {α : Type} (f : α → Fin 16 → α) (s : α) : α :=
  f (f (f (f (f (f (f (f (f (f (f (f (f (f (f (f s 0) 1) 2) 3) 4) 5) 6) 7) 8) 9) 10) 11) 12) 13) 14) 15

/-- What the loop carries: the forward states and the backward ones. -/
abbrev Carried (F : FTy → Type) := Vec F S16x256 .f32 × Vec F S16x256 .f32 × Vec F S16x256 .f32 × Vec F S16x256 .f32

/-- The steps from number `a` on, `n` of them. -/
def steps {α : Type} (g : ℕ → α → α) (a : ℕ) : ℕ → α → α
  | 0, s => s
  | n + 1, s => g (a + n) (steps g a n s)

/-- Steps made in two parts. -/
theorem steps_add {α : Type} (g : ℕ → α → α) (a m : ℕ) (s : α) : ∀ n, steps g a (m + n) s = steps g (a + m) n (steps g a m s)
  | 0 => rfl
  | n + 1 => by
    rw [← Nat.add_assoc, steps, steps, steps_add g a m s n, Nat.add_assoc]

/-- Sixteen steps in order are the numbered steps from `a` on. -/
theorem sixteen_eq {α : Type} (g : ℕ → α → α) (f : α → Fin 16 → α) (a : ℕ) (h : ∀ s u, f s u = g (a + u.val) s) (s : α) :
    sixteen f s = steps g a 16 s := by
  simp only [sixteen, h]
  rfl

section Trip

variable (𝒱 : Variants) (c : Dev nD) (bd : Option 𝒱.V) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole)
    (v33 : Vec F S16x256 .i32) (v35 : Vec F S256x1024 .bf16) (v37 : Vec F S256x1024 .bf16) (v39 : BitVec 32) (v41 : BitVec 32) (X11 : BufTy.Contents (Elt F) arg11.view.ty) (X12 : BufTy.Contents (Elt F) arg12.view.ty)

set_option maxRecDepth 8192 in
set_option maxHeartbeats 4000000 in
/-- One trip of the loop makes sixteen forward steps. -/
theorem trip_fwd (k : Fin k0_t1_loop.trips) (acc : Carried F) :
    ((tripR_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 k acc).1, (tripR_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 k acc).2.1)
      = sixteen (fStep (k0_pay1 v33) (k0_pay2 v35) v39 arg11 X11 k) (acc.1, acc.2.1) := by
  unfold tripR_k0_t1 trip_k0_t1
  rfl

set_option maxRecDepth 8192 in
set_option maxHeartbeats 4000000 in
/-- One trip of the loop makes sixteen backward steps. -/
theorem trip_bwd (k : Fin k0_t1_loop.trips) (acc : Carried F) :
    (tripR_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 k acc).2.2
      = sixteen (bStep (k0_pay1 v33) (k0_pay3 v37) v41 arg12 X12 k) acc.2.2 := by
  unfold tripR_k0_t1 trip_k0_t1
  rfl

/-- The forward states after some trips, when every step of every trip is the numbered step from `a` on. -/
theorem st_fwd (init : Carried F) (g : ℕ → HC F → HC F) (a : ℕ)
    (h : ∀ (k : Fin k0_t1_loop.trips) (u : Fin 16) s, fStep (k0_pay1 v33) (k0_pay2 v35) v39 arg11 X11 k s u = g (a + (16 * k.val + u.val)) s) :
    ∀ n, n ≤ k0_t1_loop.trips →
      ((st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init n).1, (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init n).2.1) = steps g a (16 * n) (init.1, init.2.1)
  | 0, _ => rfl
  | n + 1, hn => by
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init ⟨n, hn⟩, trip_fwd, st_fwd init g a h n (Nat.le_of_succ_le hn),
      sixteen_eq g _ (a + 16 * n) (fun s u => by rw [h, Nat.add_assoc]), Nat.mul_succ, steps_add]

/-- The backward states after some trips, when every step of every trip is the numbered step from `a` on. -/
theorem st_bwd (init : Carried F) (g : ℕ → HC F → HC F) (a : ℕ)
    (h : ∀ (k : Fin k0_t1_loop.trips) (u : Fin 16) s, bStep (k0_pay1 v33) (k0_pay3 v37) v41 arg12 X12 k s u = g (a + (16 * k.val + u.val)) s) :
    ∀ n, n ≤ k0_t1_loop.trips →
      (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init n).2.2 = steps g a (16 * n) init.2.2
  | 0, _ => rfl
  | n + 1, hn => by
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init ⟨n, hn⟩, trip_bwd, st_bwd init g a h n (Nat.le_of_succ_le hn),
      sixteen_eq g _ (a + 16 * n) (fun s u => by rw [h, Nat.add_assoc]), Nat.mul_succ, steps_add]

end Trip

end Cert.KernelIdeal.Gen

end
-- ==== Proof.Block.lean ====
/- What one grid point of the kernel leaves in its carried scratch buffer, and what the last point writes out: the states
   after the 64 steps of its block of time, joined side by side. -/
module

public import proofs.«01_k».proof.Proof.Step
public import proofs.«01_k».proof.Proof.Gen.KernelIdeal.Value
public import Idealize.ShloMosaic.Lib.VecWindow
public import Idealize.ShloMosaic.Lib.Tactic

@[expose] public section
noncomputable section
namespace Cert.KernelIdeal.Gen
open Idealize.ShloMosaic Idealize.ShloMosaic.TcCoe
open Idealize.SL Idealize.SL.Sem
variable {F : FTy → Type} [FloatOps F]

/-- The two directions' states side by side, as the scratch buffer holds them. -/
def join (p q : HC F) : Vec F S16x1024 .f32 := k0_pay7 p.1 p.2 q.1 q.2

/-- The forward states in the scratch buffer. -/
def partF (X : Vec F S16x1024 .f32) : HC F :=
  (extractStridedSlice S16x256 ![0, 0] X slices_S16x1024_o0_0_S16x256, extractStridedSlice S16x256 ![0, 256] X slices_S16x1024_o0_256_S16x256)

/-- The backward states in the scratch buffer. -/
def partB (X : Vec F S16x1024 .f32) : HC F :=
  (extractStridedSlice S16x256 ![0, 512] X slices_S16x1024_o0_512_S16x256, extractStridedSlice S16x256 ![0, 768] X slices_S16x1024_o0_768_S16x256)

/-- The sixteen rows of `X` from the forward row of step `u` of trip `k`. -/
def rowF (X : Vec F S1024x1024 .f32) (k : Fin k0_t1_loop.trips) (u : Fin 16) : Vec F S16x1024 .f32 :=
  VecWindow.window X (k0_off1 k (BitVec.ofNat 32 u.val)) S16x1024.size (k0_off1_inb k u)

/-- The sixteen rows of `X` from the backward row of step `u` of trip `k`. -/
def rowB (X : Vec F S1024x1024 .f32) (k : Fin k0_t1_loop.trips) (u : Fin 16) : Vec F S16x1024 .f32 :=
  VecWindow.window X (k0_off2 k (BitVec.ofNat 32 u.val)) S16x1024.size (k0_off2_inb k u)

/-- Two offsets of zero. -/
theorem off_zero2 : (![0, 0] : Fin 2 → Nat) = fun _ => 0 := funext fun a => by fin_cases a <;> rfl

/-- Three offsets of zero. -/
theorem off_zero3 : (![0, 0, 0] : Fin 3 → Nat) = fun _ => 0 := funext fun a => by fin_cases a <;> rfl

/-- The whole loop: what it carries at its end, joined, is 64 numbered steps of each direction. -/
theorem loop_join (𝒱 : Variants) (c : Dev nD) (bd : Option 𝒱.V) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole) (v33 : Vec F S16x256 .i32) (v35 : Vec F S256x1024 .bf16) (v37 : Vec F S256x1024 .bf16) (v39 : BitVec 32) (v41 : BitVec 32) (X11 : BufTy.Contents (Elt F) arg11.view.ty) (X12 : BufTy.Contents (Elt F) arg12.view.ty) (init : Carried F)
    (gF gB : ℕ → HC F → HC F) (a : ℕ)
    (hF : ∀ (k : Fin k0_t1_loop.trips) (u : Fin 16) s, fStep (k0_pay1 v33) (k0_pay2 v35) v39 arg11 X11 k s u = gF (a + (16 * k.val + u.val)) s)
    (hB : ∀ (k : Fin k0_t1_loop.trips) (u : Fin 16) s, bStep (k0_pay1 v33) (k0_pay3 v37) v41 arg12 X12 k s u = gB (a + (16 * k.val + u.val)) s) :
    k0_pay7 (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init k0_t1_loop.trips).1 (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init k0_t1_loop.trips).2.1 (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init k0_t1_loop.trips).2.2.1 (st_k0_t1 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init k0_t1_loop.trips).2.2.2
      = join (steps gF a 64 (init.1, init.2.1)) (steps gB a 64 init.2.2) := by
  have f := st_fwd 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init gF a hF k0_t1_loop.trips le_rfl
  have b := st_bwd 𝒱 c bd i arg1 harg1 arg2 harg2 arg3 harg3 arg4 harg4 arg5 harg5 arg6 harg6 arg7 harg7 arg8 harg8 arg9 harg9 arg10 harg10 arg11 harg11 arg12 harg12 arg13 harg13 v33 v35 v37 v39 v41 X11 X12 init gB a hB k0_t1_loop.trips le_rfl
  rw [show 16 * k0_t1_loop.trips = 64 from rfl] at f b
  unfold join
  rw [← f, ← b]

/-- The forward input products, read back sixteen rows at a time. -/
theorem rowsF_written (arg11 : Memref sig .tc .vmem S1024x1024 .f32) (G : BufTy.Contents (Elt F) arg11.view.ty) (P : Vec F S1024x1024 .f32)
    (k : Fin k0_t1_loop.trips) (u : Fin 16) :
    rowsF arg11 (arg11.view.writes (Elt F) G [⟨Rect.unit ![0, 0] S1024x1024.size inb_S1024x1024_S1024x1024_0_0, P⟩]) k u = rowF P k u := by
  unfold rowsF rowF
  rw [View.readAt_unit _ _ _ rfl (k0_off1_inb k u), View.read_writes_full]

/-- The backward input products, read back sixteen rows at a time. -/
theorem rowsB_written (arg12 : Memref sig .tc .vmem S1024x1024 .f32) (G : BufTy.Contents (Elt F) arg12.view.ty) (P : Vec F S1024x1024 .f32)
    (k : Fin k0_t1_loop.trips) (u : Fin 16) :
    rowsB arg12 (arg12.view.writes (Elt F) G [⟨Rect.unit ![0, 0] S1024x1024.size inb_S1024x1024_S1024x1024_0_0, P⟩]) k u = rowB P k u := by
  unfold rowsB rowB
  rw [View.readAt_unit _ _ _ rfl (k0_off2_inb k u), View.read_writes_full]

/-- The lengths as they are. -/
theorem pay1_eq (X : Vec F S16x256 .i32) : k0_pay1 X = X := shapeCast_self _ _

/-- The forward recurrent weights as they are. -/
theorem pay2_eq (X : Vec F S256x1024 .bf16) : k0_pay2 X = X := shapeCast_self _ _

/-- The backward recurrent weights as they are. -/
theorem pay3_eq (X : Vec F S256x1024 .bf16) : k0_pay3 X = X := shapeCast_self _ _

/-- A load of 256 columns of contents `X` is the slice of `X` there. -/
theorem load_cols (arg13 : Memref sig .tc .vmem S16x1024 .f32) (G : BufTy.Contents (Elt F) arg13.view.ty) (o : ℕ)
    (inb : ∀ a, (![0, o] : Fin 2 → ℕ) a + S16x256.size a ≤ S16x1024.size a) (h : S16x1024.Slices ![0, o] S16x256) :
    View.readAt (Elt F) arg13.view (Rect.unit (s := S16x1024) ![0, o] S16x256.size inb).toLoadRect G
      = extractStridedSlice S16x256 ![0, o] (arg13.view.read (Elt F) G) h := by
  rw [View.readAt_unit _ _ _ rfl inb]
  funext j
  refine congrArg (arg13.view.read (Elt F) G) (funext fun a => Fin.ext ?_)
  fin_cases a <;> simp [VecWindow.window]

/-- The two loads of the forward states. -/
theorem partF_load (arg13 : Memref sig .tc .vmem S16x1024 .f32) (G : BufTy.Contents (Elt F) arg13.view.ty) :
    ((View.readAt (Elt F) arg13.view (Rect.unit (s := S16x1024) ![0, 0] S16x256.size inb_S16x1024_S16x256_0_0).toLoadRect G, View.readAt (Elt F) arg13.view (Rect.unit (s := S16x1024) ![0, 256] S16x256.size inb_S16x1024_S16x256_0_256).toLoadRect G) : HC F)
      = partF (arg13.view.read (Elt F) G) :=
  Prod.ext (load_cols arg13 G 0 _ slices_S16x1024_o0_0_S16x256) (load_cols arg13 G 256 _ slices_S16x1024_o0_256_S16x256)

/-- The two loads of the backward states. -/
theorem partB_load (arg13 : Memref sig .tc .vmem S16x1024 .f32) (G : BufTy.Contents (Elt F) arg13.view.ty) :
    ((View.readAt (Elt F) arg13.view (Rect.unit (s := S16x1024) ![0, 512] S16x256.size inb_S16x1024_S16x256_0_512).toLoadRect G, View.readAt (Elt F) arg13.view (Rect.unit (s := S16x1024) ![0, 768] S16x256.size inb_S16x1024_S16x256_0_768).toLoadRect G) : HC F)
      = partB (arg13.view.read (Elt F) G) :=
  Prod.ext (load_cols arg13 G 512 _ slices_S16x1024_o0_512_S16x256) (load_cols arg13 G 768 _ slices_S16x1024_o0_768_S16x256)

set_option maxRecDepth 8192 in
/-- The first point leaves the states after its 64 steps from the zero states. -/
theorem sout0_A_2_eq (c : Dev nD) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole) (hc0 : cond0_0 i) (hc1 : ¬cond0_1 i) (x0 : Vec F S64x16x512 .bf16) (x1 : Vec F S64x16x512 .bf16) (x2 : Vec F S512x1024 .bf16) (x3 : Vec F S512x1024 .bf16) (x4 : Vec F S256x1024 .bf16) (x5 : Vec F S256x1024 .bf16) (x6 : Vec F S1x1024 .f32) (x7 : Vec F S1x1024 .f32) (x8 : Vec F S16x256 .i32)
    (gF gB : ℕ → HC F → HC F) (a : ℕ)
    (hF : ∀ (k : Fin k0_t1_loop.trips) (u : Fin 16) s, kStep x8 x4 (Scalar.addi (Scalar.muli (BitVec.ofNat 32 (i 0).val) 64#32) (subNo k u)) (rowF (k0_pay197 x0 x2 x6) k u) s = gF (a + (16 * k.val + u.val)) s)
    (hB : ∀ (k : Fin k0_t1_loop.trips) (u : Fin 16) s, kStep x8 x5 (Scalar.addi (Scalar.muli (Scalar.subi (31#32) (BitVec.ofNat 32 (i 0).val)) 64#32) (Scalar.subi 63#32 (subNo k u))) (rowB (k0_pay198 x1 x3 x7) k u) s = gB (a + (16 * k.val + u.val)) s) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8  = join (steps gF a 64 (partF k0_pay199)) (steps gB a 64 (partB k0_pay199)) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 )]
  unfold kernelRun0_A
  dsimp only
  sl_unfold_words
  rw [View.canon_cons_unit_zero (S := S16x1024) off_zero2]
  refine (loop_join _ _ _ _ _ _ _ _ _ _ _ _ _ _ _ _ _ _ _ _ _ _ _ _ _ _ _ _ _ _ _ _ _ _ _ _ _ _ gF gB a ?_ ?_).trans ?_
  · intro k u s
    rw [← hF k u s, fStep, rowsF_written, pay1_eq, pay2_eq]
    rw [View.readAt_full arg9.view, View.readAt_full arg5.view, View.readAt_full arg1.view, View.readAt_full arg3.view, View.readAt_full arg7.view,
      harg9.read_unread, harg5.read_unread, harg1.read_unread, harg3.read_unread, harg7.read_unread]
  · intro k u s
    rw [← hB k u s, bStep, rowsB_written, pay1_eq, pay3_eq]
    rw [View.readAt_full arg9.view, View.readAt_full arg6.view, View.readAt_full arg2.view, View.readAt_full arg4.view, View.readAt_full arg8.view,
      harg9.read_unread, harg6.read_unread, harg2.read_unread, harg4.read_unread, harg8.read_unread]
  · refine (congrArg₂ join (congrArg _ (partF_load arg13 _)) (congrArg _ (partB_load arg13 _))).trans ?_
    rw [View.read_writes_full]

set_option maxRecDepth 8192 in
/-- A point between leaves the states after its 64 steps from what the point before left. -/
theorem sout0_B_2_eq (c : Dev nD) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole) (hc0 : ¬cond0_0 i) (hc1 : ¬cond0_1 i) (x0 : Vec F S64x16x512 .bf16) (x1 : Vec F S64x16x512 .bf16) (x2 : Vec F S512x1024 .bf16) (x3 : Vec F S512x1024 .bf16) (x4 : Vec F S256x1024 .bf16) (x5 : Vec F S256x1024 .bf16) (x6 : Vec F S1x1024 .f32) (x7 : Vec F S1x1024 .f32) (x8 : Vec F S16x256 .i32) (xs2 : Vec F S16x1024 .f32)
    (gF gB : ℕ → HC F → HC F) (a : ℕ)
    (hF : ∀ (k : Fin k0_t1_loop.trips) (u : Fin 16) s, kStep x8 x4 (Scalar.addi (Scalar.muli (BitVec.ofNat 32 (i 0).val) 64#32) (subNo k u)) (rowF (k0_pay197 x0 x2 x6) k u) s = gF (a + (16 * k.val + u.val)) s)
    (hB : ∀ (k : Fin k0_t1_loop.trips) (u : Fin 16) s, kStep x8 x5 (Scalar.addi (Scalar.muli (Scalar.subi (31#32) (BitVec.ofNat 32 (i 0).val)) 64#32) (Scalar.subi 63#32 (subNo k u))) (rowB (k0_pay198 x1 x3 x7) k u) s = gB (a + (16 * k.val + u.val)) s) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2 = join (steps gF a 64 (partF xs2)) (steps gB a 64 (partB xs2)) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2)]
  unfold kernelRun0_B
  dsimp only
  sl_unfold_words
  rw [View.canon_unit_zero off_zero2]
  refine (loop_join _ _ _ _ _ _ _ _ _ _ _ _ _ _ _ _ _ _ _ _ _ _ _ _ _ _ _ _ _ _ _ _ _ _ _ _ _ _ gF gB a ?_ ?_).trans ?_
  · intro k u s
    rw [← hF k u s, fStep, rowsF_written, pay1_eq, pay2_eq]
    rw [View.readAt_full arg9.view, View.readAt_full arg5.view, View.readAt_full arg1.view, View.readAt_full arg3.view, View.readAt_full arg7.view,
      harg9.read_unread, harg5.read_unread, harg1.read_unread, harg3.read_unread, harg7.read_unread]
  · intro k u s
    rw [← hB k u s, bStep, rowsB_written, pay1_eq, pay3_eq]
    rw [View.readAt_full arg9.view, View.readAt_full arg6.view, View.readAt_full arg2.view, View.readAt_full arg4.view, View.readAt_full arg8.view,
      harg9.read_unread, harg6.read_unread, harg2.read_unread, harg4.read_unread, harg8.read_unread]
  · refine (congrArg₂ join (congrArg _ (partF_load arg13 _)) (congrArg _ (partB_load arg13 _))).trans ?_
    rw [harg13.read_unread]

set_option maxRecDepth 8192 in
/-- The last point leaves the states after its 64 steps from what the point before left. -/
theorem sout0_C_2_eq (c : Dev nD) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole) (hc0 : ¬cond0_0 i) (hc1 : cond0_1 i) (x0 : Vec F S64x16x512 .bf16) (x1 : Vec F S64x16x512 .bf16) (x2 : Vec F S512x1024 .bf16) (x3 : Vec F S512x1024 .bf16) (x4 : Vec F S256x1024 .bf16) (x5 : Vec F S256x1024 .bf16) (x6 : Vec F S1x1024 .f32) (x7 : Vec F S1x1024 .f32) (x8 : Vec F S16x256 .i32) (xs2 : Vec F S16x1024 .f32)
    (gF gB : ℕ → HC F → HC F) (a : ℕ)
    (hF : ∀ (k : Fin k0_t1_loop.trips) (u : Fin 16) s, kStep x8 x4 (Scalar.addi (Scalar.muli (BitVec.ofNat 32 (i 0).val) 64#32) (subNo k u)) (rowF (k0_pay197 x0 x2 x6) k u) s = gF (a + (16 * k.val + u.val)) s)
    (hB : ∀ (k : Fin k0_t1_loop.trips) (u : Fin 16) s, kStep x8 x5 (Scalar.addi (Scalar.muli (Scalar.subi (31#32) (BitVec.ofNat 32 (i 0).val)) 64#32) (Scalar.subi 63#32 (subNo k u))) (rowB (k0_pay198 x1 x3 x7) k u) s = gB (a + (16 * k.val + u.val)) s) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2 = join (steps gF a 64 (partF xs2)) (steps gB a 64 (partB xs2)) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2)]
  unfold kernelRun0_C
  dsimp only
  sl_unfold_words
  rw [View.canon_unit_zero off_zero2]
  refine (loop_join _ _ _ _ _ _ _ _ _ _ _ _ _ _ _ _ _ _ _ _ _ _ _ _ _ _ _ _ _ _ _ _ _ _ _ _ _ _ gF gB a ?_ ?_).trans ?_
  · intro k u s
    rw [← hF k u s, fStep, rowsF_written, pay1_eq, pay2_eq]
    rw [View.readAt_full arg9.view, View.readAt_full arg5.view, View.readAt_full arg1.view, View.readAt_full arg3.view, View.readAt_full arg7.view,
      harg9.read_unread, harg5.read_unread, harg1.read_unread, harg3.read_unread, harg7.read_unread]
  · intro k u s
    rw [← hB k u s, bStep, rowsB_written, pay1_eq, pay3_eq]
    rw [View.readAt_full arg9.view, View.readAt_full arg6.view, View.readAt_full arg2.view, View.readAt_full arg4.view, View.readAt_full arg8.view,
      harg9.read_unread, harg6.read_unread, harg2.read_unread, harg4.read_unread, harg8.read_unread]
  · refine (congrArg₂ join (congrArg _ (partF_load arg13 _)) (congrArg _ (partB_load arg13 _))).trans ?_
    rw [harg13.read_unread]

set_option maxRecDepth 8192 in
/-- The last point writes out the states after its 64 steps. -/
theorem out0_C_9_eq (c : Dev nD) (i : grid0.Coords) (arg1 : Memref sig .tc .vmem S64x16x512 .bf16) (harg1 : arg1.IsWhole) (arg2 : Memref sig .tc .vmem S64x16x512 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S16x256 .i32) (harg9 : arg9.IsWhole) (arg10 : Memref sig .tc .vmem S16x1024 .f32) (harg10 : arg10.IsWhole) (arg11 : Memref sig .tc .vmem S1024x1024 .f32) (harg11 : arg11.IsWhole) (arg12 : Memref sig .tc .vmem S1024x1024 .f32) (harg12 : arg12.IsWhole) (arg13 : Memref sig .tc .vmem S16x1024 .f32) (harg13 : arg13.IsWhole) (hc0 : ¬cond0_0 i) (hc1 : cond0_1 i) (x0 : Vec F S64x16x512 .bf16) (x1 : Vec F S64x16x512 .bf16) (x2 : Vec F S512x1024 .bf16) (x3 : Vec F S512x1024 .bf16) (x4 : Vec F S256x1024 .bf16) (x5 : Vec F S256x1024 .bf16) (x6 : Vec F S1x1024 .f32) (x7 : Vec F S1x1024 .f32) (x8 : Vec F S16x256 .i32) (xs2 : Vec F S16x1024 .f32)
    (gF gB : ℕ → HC F → HC F) (a : ℕ)
    (hF : ∀ (k : Fin k0_t1_loop.trips) (u : Fin 16) s, kStep x8 x4 (Scalar.addi (Scalar.muli (BitVec.ofNat 32 (i 0).val) 64#32) (subNo k u)) (rowF (k0_pay197 x0 x2 x6) k u) s = gF (a + (16 * k.val + u.val)) s)
    (hB : ∀ (k : Fin k0_t1_loop.trips) (u : Fin 16) s, kStep x8 x5 (Scalar.addi (Scalar.muli (Scalar.subi (31#32) (BitVec.ofNat 32 (i 0).val)) 64#32) (Scalar.subi 63#32 (subNo k u))) (rowB (k0_pay198 x1 x3 x7) k u) s = gB (a + (16 * k.val + u.val)) s) :
    out0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2 = join (steps gF a 64 (partF xs2)) (steps gB a 64 (partB xs2)) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs2)]
  unfold kernelRun0_C
  dsimp only
  sl_unfold_words
  rw [View.canon_unit_zero off_zero2, View.readCov_full]
  refine (loop_join _ _ _ _ _ _ _ _ _ _ _ _ _ _ _ _ _ _ _ _ _ _ _ _ _ _ _ _ _ _ _ _ _ _ _ _ _ _ gF gB a ?_ ?_).trans ?_
  · intro k u s
    rw [← hF k u s, fStep, rowsF_written, pay1_eq, pay2_eq]
    rw [View.readAt_full arg9.view, View.readAt_full arg5.view, View.readAt_full arg1.view, View.readAt_full arg3.view, View.readAt_full arg7.view,
      harg9.read_unread, harg5.read_unread, harg1.read_unread, harg3.read_unread, harg7.read_unread]
  · intro k u s
    rw [← hB k u s, bStep, rowsB_written, pay1_eq, pay3_eq]
    rw [View.readAt_full arg9.view, View.readAt_full arg6.view, View.readAt_full arg2.view, View.readAt_full arg4.view, View.readAt_full arg8.view,
      harg9.read_unread, harg6.read_unread, harg2.read_unread, harg4.read_unread, harg8.read_unread]
  · refine (congrArg₂ join (congrArg _ (partF_load arg13 _)) (congrArg _ (partB_load arg13 _))).trans ?_
    rw [harg13.read_unread]

end Cert.KernelIdeal.Gen
end
-- ==== Proof.RefStep.lean ====
/- One time step of one direction of the recurrence as the reference computes it, and what a trip of each of its two loops
   leaves in the hidden and the cell state. -/
module

public import proofs.«01_k».proof.Proof.RefRun

@[expose] public section

noncomputable section

namespace Cert.ReferenceIdeal.Two

open Cert.ReferenceIdeal Cert.ReferenceIdeal.Gen
open Idealize.ShloMosaic Idealize.ShloMosaic.TcCoe Idealize.ShloMosaic.Tactic
open Idealize.SL Idealize.SL.Sem
open Idealize.ShloMosaic.StableHlo

variable {F : FTy → Type} [FloatOps F]

/-- The gates before their activations. -/
def rGates (wi : Vec F S1024x512 .f32) (wh : Vec F S1024x256 .f32) (bi bh : Vec F S1024 .f32) (x : Vec F S16x512 .f32)
    (h : Vec F S16x256 .f32) : FVec F S16x1024 .f32 :=
  addf (addf (addf (Host.dotGeneral dot_S16x512_S512x1024_S16x1024_1_0_0_1_n_n none x (transpose S512x1024 [1, 0] wi transposes_S1024x512_S512x1024_1_0))
    (Host.dotGeneral dot_S16x256_S256x1024_S16x1024_1_0_0_1_n_n none h (transpose S256x1024 [1, 0] wh transposes_S1024x256_S256x1024_1_0)))
    (broadcastInDim S16x1024 ![0, 1] bcast_S1x1024_S16x1024_0_1 (broadcastInDim S1x1024 ![1] bcast_S1024_S1x1024_1 bi)))
    (broadcastInDim S16x1024 ![0, 1] bcast_S1x1024_S16x1024_0_1 (broadcastInDim S1x1024 ![1] bcast_S1024_S1x1024_1 bh))

/-- One over one plus the exponential of the negative. -/
def rSigmoid (v : FVec F S16x256 .f32) : FVec F S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf v)))

/-- The new cell state. -/
def rCell (g : FVec F S16x1024 .f32) (c : Vec F S16x256 .f32) : FVec F S16x256 .f32 :=
  addf (mulf (rSigmoid (extractStridedSlice S16x256 ![0, 256] g slices_S16x1024_S16x256_0_256)) c)
    (mulf (rSigmoid (extractStridedSlice S16x256 ![0, 0] g slices_S16x1024_S16x256_0_0))
      (Host.tanh (extractStridedSlice S16x256 ![0, 512] g slices_S16x1024_S16x256_0_512)))

/-- The new hidden state from the output gate `o` and the new cell state `c`. -/
def rHid (o c : FVec F S16x256 .f32) : FVec F S16x256 .f32 := mulf (rSigmoid o) (Host.tanh c)

/-- `v` in the rows that `p` names and `w` in the others. -/
def rPick (p : IVec S16x1 1) (v w : Vec F S16x256 .f32) : Vec F S16x256 .f32 :=
  select (broadcastInDim S16x256 ![0, 1] bcast_S16x1_S16x256_0_1 p) v w

/-- The rows of `x` at time `t`. -/
def rRow (xs : Vec F S2048x16x512 .f32) (t : S_.Idx → BitVec 32) : Vec F S16x512 .f32 :=
  shapeCast S16x512 (Host.dynamicSlice S1x16x512 xs
    (fun k => ((![t, constantI S_ 32 0#32, constantI S_ 32 0#32] : Fin 3 → S_.Idx → BitVec 32) k (Shape.Idx.first h_S_)).toInt)
    sliceFits_S2048x16x512_S1x16x512) shapeCasts_S1x16x512_S16x512

/-- Which sequences are longer than `t`. -/
def rValid (ms : IVec S2048x16x1 1) (t : S_.Idx → BitVec 32) : IVec S16x1 1 :=
  shapeCast S16x1 (Host.dynamicSlice S1x16x1 ms
    (fun k => ((![t, constantI S_ 32 0#32, constantI S_ 32 0#32] : Fin 3 → S_.Idx → BitVec 32) k (Shape.Idx.first h_S_)).toInt)
    sliceFits_S2048x16x1_S1x16x1) shapeCasts_S1x16x1_S16x1

/-- One step: the sequences that `p` names take their new states and the others keep theirs. -/
def rStep (wi : Vec F S1024x512 .f32) (wh : Vec F S1024x256 .f32) (bi bh : Vec F S1024 .f32) (x : Vec F S16x512 .f32) (p : IVec S16x1 1)
    (s : Vec F S16x256 .f32 × Vec F S16x256 .f32) : Vec F S16x256 .f32 × Vec F S16x256 .f32 :=
  (rPick p (rHid (extractStridedSlice S16x256 ![0, 768] (rGates wi wh bi bh x s.1) slices_S16x1024_S16x256_0_768) (rCell (rGates wi wh bi bh x s.1) s.2)) s.1,
   rPick p (rCell (rGates wi wh bi bh x s.1) s.2) s.2)

set_option maxRecDepth 8192 in
/-- First loop: the input's rows at the trip's time. -/
theorem aRow_val (V : Valuation τ sig (Elt F)) : after aRow V (no_index (Proc.devRef .tc main_while0b_v27)) = rRow (V (Proc.devRef .tc main_v12_0)) (V (Proc.devRef .tc main_v12_6)) := by
  after_results_entrywise [cast_eq]

set_option maxRecDepth 8192 in
/-- First loop: which sequences are longer than the trip's time. -/
theorem aValid_val (V : Valuation τ sig (Elt F)) : after aValid V (no_index (Proc.devRef .tc main_while0b_v28)) = rValid (V (Proc.devRef .tc main_v12_1)) (V (Proc.devRef .tc main_v12_6)) := by
  after_results_entrywise [cast_eq]

set_option maxRecDepth 8192 in
/-- First loop: the gates before their activations. -/
theorem aGates_val (V : Valuation τ sig (Elt F)) : after aGates V (no_index (Proc.devRef .tc main_while0b_v39)) = rGates (V (Proc.devRef .tc main_v12_2)) (V (Proc.devRef .tc main_v12_3)) (V (Proc.devRef .tc main_v12_4)) (V (Proc.devRef .tc main_v12_5)) (V (Proc.devRef .tc main_while0b_v27)) (V (Proc.devRef .tc main_v12_7)) := by
  after_reads_simp
  rfl

set_option maxRecDepth 8192 in
/-- First loop: the output gate's part. -/
theorem aOut_val (V : Valuation τ sig (Elt F)) : after aCell V (no_index (Proc.devRef .tc main_while0b_v43)) = extractStridedSlice S16x256 ![0, 768] (V (Proc.devRef .tc main_while0b_v39)) slices_S16x1024_S16x256_0_768 := by
  after_reads_simp

set_option maxRecDepth 8192 in
/-- First loop: the new cell state. -/
theorem aCell_val (V : Valuation τ sig (Elt F)) : after aCell V (no_index (Proc.devRef .tc main_while0b_v59)) = rCell (V (Proc.devRef .tc main_while0b_v39)) (V (Proc.devRef .tc main_v12_8)) := by
  after_reads_simp
  rfl

set_option maxRecDepth 8192 in
/-- First loop: the new hidden state. -/
theorem aHid_val (V : Valuation τ sig (Elt F)) : after aHid V (no_index (Proc.devRef .tc main_while0b_v67)) = rHid (V (Proc.devRef .tc main_while0b_v43)) (V (Proc.devRef .tc main_while0b_v59)) := by
  after_reads_simp
  rfl

set_option maxRecDepth 8192 in
/-- First loop: the hidden state kept where the sequence has ended. -/
theorem aSelH_val (V : Valuation τ sig (Elt F)) : after aSelH V (no_index (Proc.devRef .tc main_while0b_v68)) = rPick (V (Proc.devRef .tc main_while0b_v28)) (V (Proc.devRef .tc main_while0b_v67)) (V (Proc.devRef .tc main_v12_7)) := by
  after_results_entrywise [cast_eq]

set_option maxRecDepth 8192 in
/-- First loop: the cell state kept where the sequence has ended. -/
theorem aSelC_val (V : Valuation τ sig (Elt F)) : after aSelC V (no_index (Proc.devRef .tc main_while0b_v69)) = rPick (V (Proc.devRef .tc main_while0b_v28)) (V (Proc.devRef .tc main_while0b_v59)) (V (Proc.devRef .tc main_v12_8)) := by
  after_results_entrywise [cast_eq]

set_option maxRecDepth 8192 in
/-- First loop: the hidden state is handed to the next trip. -/
theorem aNextH_val (V : Valuation τ sig (Elt F)) : after aNext V (no_index (Proc.devRef .tc main_v12_7)) = V (Proc.devRef .tc main_while0b_v68) := by
  after_reads_simp
  rfl

set_option maxRecDepth 8192 in
/-- First loop: the cell state is handed to the next trip. -/
theorem aNextC_val (V : Valuation τ sig (Elt F)) : after aNext V (no_index (Proc.devRef .tc main_v12_8)) = V (Proc.devRef .tc main_while0b_v69) := by
  after_reads_simp
  rfl

set_option maxRecDepth 8192 in
set_option maxHeartbeats 2000000 in
/-- A trip of the first loop is one step, at the time that its counter says. -/
theorem aTrip (V : Valuation τ sig (Elt F)) :
    (afterL bodyA V (Proc.devRef .tc main_v12_7), afterL bodyA V (Proc.devRef .tc main_v12_8))
      = rStep (V (Proc.devRef .tc main_v12_2)) (V (Proc.devRef .tc main_v12_3)) (V (Proc.devRef .tc main_v12_4)) (V (Proc.devRef .tc main_v12_5)) (rRow (V (Proc.devRef .tc main_v12_0)) (V (Proc.devRef .tc main_v12_6)))
        (rValid (V (Proc.devRef .tc main_v12_1)) (V (Proc.devRef .tc main_v12_6))) (V (Proc.devRef .tc main_v12_7), V (Proc.devRef .tc main_v12_8)) := by
  show (after aNext (afterL [aRow, aValid, aGates, aCell, aHid, aSelH, aSelC, aYs] V) (Proc.devRef .tc main_v12_7), after aNext (afterL [aRow, aValid, aGates, aCell, aHid, aSelH, aSelC, aYs] V) (Proc.devRef .tc main_v12_8)) = _
  simp only [afterL_cons, afterL_nil]
  simp (disch := decide +kernel) only [aNextH_val, aNextC_val, aSelH_val, aSelC_val, aHid_val, aOut_val, aCell_val, aGates_val, aValid_val, aRow_val, after_of_writes_sub _ _ aRow_writes, after_of_writes_sub _ _ aValid_writes, after_of_writes_sub _ _ aGates_writes, after_of_writes_sub _ _ aCell_writes, after_of_writes_sub _ _ aHid_writes, after_of_writes_sub _ _ aSelH_writes, after_of_writes_sub _ _ aSelC_writes, after_of_writes_sub _ _ aYs_writes]
  rfl

set_option maxRecDepth 8192 in
/-- Second loop: the time of a trip: the last one first. -/
theorem bTime_val (V : Valuation τ sig (Elt F)) : after bTime V (no_index (Proc.devRef .tc main_while1b_v28)) = subi (subi (constantI S_ 32 2048#32) (V (Proc.devRef .tc main_v25_6))) (constantI S_ 32 1#32) := by
  after_reads_simp

set_option maxRecDepth 8192 in
/-- Second loop: the input's rows at the trip's time. -/
theorem bRow_val (V : Valuation τ sig (Elt F)) : after bRow V (no_index (Proc.devRef .tc main_while1b_v29)) = rRow (V (Proc.devRef .tc main_v25_0)) (V (Proc.devRef .tc main_while1b_v28)) := by
  after_results_entrywise [cast_eq]

set_option maxRecDepth 8192 in
/-- Second loop: which sequences are longer than the trip's time. -/
theorem bValid_val (V : Valuation τ sig (Elt F)) : after bValid V (no_index (Proc.devRef .tc main_while1b_v30)) = rValid (V (Proc.devRef .tc main_v25_1)) (V (Proc.devRef .tc main_while1b_v28)) := by
  after_results_entrywise [cast_eq]

set_option maxRecDepth 8192 in
/-- Second loop: the gates before their activations. -/
theorem bGates_val (V : Valuation τ sig (Elt F)) : after bGates V (no_index (Proc.devRef .tc main_while1b_v41)) = rGates (V (Proc.devRef .tc main_v25_2)) (V (Proc.devRef .tc main_v25_3)) (V (Proc.devRef .tc main_v25_4)) (V (Proc.devRef .tc main_v25_5)) (V (Proc.devRef .tc main_while1b_v29)) (V (Proc.devRef .tc main_v25_7)) := by
  after_reads_simp
  rfl

set_option maxRecDepth 8192 in
/-- Second loop: the output gate's part. -/
theorem bOut_val (V : Valuation τ sig (Elt F)) : after bCell V (no_index (Proc.devRef .tc main_while1b_v45)) = extractStridedSlice S16x256 ![0, 768] (V (Proc.devRef .tc main_while1b_v41)) slices_S16x1024_S16x256_0_768 := by
  after_reads_simp

set_option maxRecDepth 8192 in
/-- Second loop: the new cell state. -/
theorem bCell_val (V : Valuation τ sig (Elt F)) : after bCell V (no_index (Proc.devRef .tc main_while1b_v61)) = rCell (V (Proc.devRef .tc main_while1b_v41)) (V (Proc.devRef .tc main_v25_8)) := by
  after_reads_simp
  rfl

set_option maxRecDepth 8192 in
/-- Second loop: the new hidden state. -/
theorem bHid_val (V : Valuation τ sig (Elt F)) : after bHid V (no_index (Proc.devRef .tc main_while1b_v69)) = rHid (V (Proc.devRef .tc main_while1b_v45)) (V (Proc.devRef .tc main_while1b_v61)) := by
  after_reads_simp
  rfl

set_option maxRecDepth 8192 in
/-- Second loop: the hidden state kept where the sequence has ended. -/
theorem bSelH_val (V : Valuation τ sig (Elt F)) : after bSelH V (no_index (Proc.devRef .tc main_while1b_v70)) = rPick (V (Proc.devRef .tc main_while1b_v30)) (V (Proc.devRef .tc main_while1b_v69)) (V (Proc.devRef .tc main_v25_7)) := by
  after_results_entrywise [cast_eq]

set_option maxRecDepth 8192 in
/-- Second loop: the cell state kept where the sequence has ended. -/
theorem bSelC_val (V : Valuation τ sig (Elt F)) : after bSelC V (no_index (Proc.devRef .tc main_while1b_v71)) = rPick (V (Proc.devRef .tc main_while1b_v30)) (V (Proc.devRef .tc main_while1b_v61)) (V (Proc.devRef .tc main_v25_8)) := by
  after_results_entrywise [cast_eq]

set_option maxRecDepth 8192 in
/-- Second loop: the hidden state is handed to the next trip. -/
theorem bNextH_val (V : Valuation τ sig (Elt F)) : after bNext V (no_index (Proc.devRef .tc main_v25_7)) = V (Proc.devRef .tc main_while1b_v70) := by
  after_reads_simp
  rfl

set_option maxRecDepth 8192 in
/-- Second loop: the cell state is handed to the next trip. -/
theorem bNextC_val (V : Valuation τ sig (Elt F)) : after bNext V (no_index (Proc.devRef .tc main_v25_8)) = V (Proc.devRef .tc main_while1b_v71) := by
  after_reads_simp
  rfl

set_option maxRecDepth 8192 in
set_option maxHeartbeats 2000000 in
/-- A trip of the second loop is one step, at the time that its counter counts down from the end. -/
theorem bTrip (V : Valuation τ sig (Elt F)) :
    (afterL bodyB V (Proc.devRef .tc main_v25_7), afterL bodyB V (Proc.devRef .tc main_v25_8))
      = rStep (V (Proc.devRef .tc main_v25_2)) (V (Proc.devRef .tc main_v25_3)) (V (Proc.devRef .tc main_v25_4)) (V (Proc.devRef .tc main_v25_5)) (rRow (V (Proc.devRef .tc main_v25_0)) (subi (subi (constantI S_ 32 2048#32) (V (Proc.devRef .tc main_v25_6))) (constantI S_ 32 1#32)))
        (rValid (V (Proc.devRef .tc main_v25_1)) (subi (subi (constantI S_ 32 2048#32) (V (Proc.devRef .tc main_v25_6))) (constantI S_ 32 1#32))) (V (Proc.devRef .tc main_v25_7), V (Proc.devRef .tc main_v25_8)) := by
  show (after bNext (afterL [bTime, bRow, bValid, bGates, bCell, bHid, bSelH, bSelC, bYs] V) (Proc.devRef .tc main_v25_7), after bNext (afterL [bTime, bRow, bValid, bGates, bCell, bHid, bSelH, bSelC, bYs] V) (Proc.devRef .tc main_v25_8)) = _
  simp only [afterL_cons, afterL_nil]
  simp (disch := decide +kernel) only [bNextH_val, bNextC_val, bSelH_val, bSelC_val, bHid_val, bOut_val, bCell_val, bGates_val, bValid_val, bRow_val, bTime_val, after_of_writes_sub _ _ bTime_writes, after_of_writes_sub _ _ bRow_writes, after_of_writes_sub _ _ bValid_writes, after_of_writes_sub _ _ bGates_writes, after_of_writes_sub _ _ bCell_writes, after_of_writes_sub _ _ bHid_writes, after_of_writes_sub _ _ bSelH_writes, after_of_writes_sub _ _ bSelC_writes, after_of_writes_sub _ _ bYs_writes]
  rfl

end Cert.ReferenceIdeal.Two

end
-- ==== Proof.RefValue.lean ====
/- What the reference leaves in its result: the states after its 2048 steps of each direction, side by side. -/
module

public import proofs.«01_k».proof.Proof.RefStep
public import proofs.«01_k».proof.Proof.Step

@[expose] public section

noncomputable section

namespace Cert.ReferenceIdeal.Two

open Cert.ReferenceIdeal Cert.ReferenceIdeal.Gen
open Idealize.ShloMosaic Idealize.ShloMosaic.TcCoe Idealize.ShloMosaic.Tactic
open Idealize.SL Idealize.SL.Sem
open Idealize.ShloMosaic.StableHlo
open Cert.KernelIdeal.Gen (steps)

variable {F : FTy → Type} [FloatOps F]
variable (m : (ℓ : Loc nD τ sig) → Buf (Elt F) ℓ)

/-- The input with time first. -/
def rXs (x : Vec F S16x2048x512 .f32) : Vec F S2048x16x512 .f32 := transpose S2048x16x512 [1, 0, 2] x transposes_S16x2048x512_S2048x16x512_1_0_2

/-- For every time, which sequences are longer. -/
def rMask (l : IVec S16 32) : IVec S2048x16x1 1 :=
  broadcastInDim S2048x16x1 ![0, 1] bcast_S2048x16_S2048x16x1_0_1 (transpose S2048x16 [1, 0]
    (cmpi .slt (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0 l)))
    transposes_S16x2048_S2048x16_1_0)

/-- The states before the first step. -/
def rZero : Vec F S16x256 .f32 := broadcastInDim S16x256 ![] bcast_S_S16x256 (constant S_ .f32 0x00000000#32)

/-- One step of the layer with these weights at the time `t`. -/
def rAt (x : Vec F S16x2048x512 .f32) (l : IVec S16 32) (wi : Vec F S1024x512 .f32) (wh : Vec F S1024x256 .f32) (bi bh : Vec F S1024 .f32)
    (t : S_.Idx → BitVec 32) (s : Vec F S16x256 .f32 × Vec F S16x256 .f32) : Vec F S16x256 .f32 × Vec F S16x256 .f32 :=
  rStep wi wh bi bh (rRow (rXs x) t) (rValid (rMask l) t) s

/-- The time of the first loop's trip `n`. -/
def timeA (n : ℕ) : S_.Idx → BitVec 32 := fun _ => Scf.iv 0#32 1#32 n
/-- The time of the second loop's trip `n`. -/
def timeB (n : ℕ) : S_.Idx → BitVec 32 := subi (subi (constantI S_ 32 2048#32) (timeA n)) (constantI S_ 32 1#32)

/-- The steps of the first loop, numbered by its trips. -/
def gA (c : Dev nD) (n : ℕ) : Vec F S16x256 .f32 × Vec F S16x256 .f32 → Vec F S16x256 .f32 × Vec F S16x256 .f32 :=
  rAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (timeA n)

/-- What the first loop begins with: the input, the mask, this direction's weights and biases, and zeros. -/
theorem entryA_eq (c : Dev nD) :
    entryA m c (Proc.devRef .tc main_v12_0) = rXs (m ((c.tc : Thread nD τ).loc main_arg0))
    ∧ entryA m c (Proc.devRef .tc main_v12_1) = rMask (m ((c.tc : Thread nD τ).loc main_arg1))
    ∧ entryA m c (Proc.devRef .tc main_v12_2) = (m ((c.tc : Thread nD τ).loc main_arg2))
    ∧ entryA m c (Proc.devRef .tc main_v12_3) = (m ((c.tc : Thread nD τ).loc main_arg3))
    ∧ entryA m c (Proc.devRef .tc main_v12_4) = (m ((c.tc : Thread nD τ).loc main_arg4))
    ∧ entryA m c (Proc.devRef .tc main_v12_5) = (m ((c.tc : Thread nD τ).loc main_arg5))
    ∧ entryA m c (Proc.devRef .tc main_v12_7) = rZero
    ∧ entryA m c (Proc.devRef .tc main_v12_8) = rZero := by
  simp only [entryA, afterL_cons, afterL_nil]
  refine ⟨?_, ?_, ?_, ?_, ?_, ?_, ?_, ?_⟩ <;>
  · after_reads_simp
    rfl

/-- What the first loop does not write is before every trip as at its entry. -/
theorem keepA (c : Dev nD) (k : ℕ) {r : Ref sig .tc} (h : r ∉ condA_W ++ headA_W ++ aNext_W) :
    atTrip condA bodyA (entryA m) k c (Proc.devRef .tc r) = entryA m c (Proc.devRef .tc r) := by
  rw [List.mem_append, List.mem_append] at h
  simp only [not_or] at h
  exact atTrip_keep condA_writes h.1.1 (fun V => bodyA_keep V h.1.2 h.2) _ c k

/-- What the first loop's condition does not write. -/
theorem afterCondA (V : Valuation τ sig (Elt F)) {r : Ref sig .tc} (h : r ∉ condA_W) :
    after condA V (Proc.devRef .tc r) = V (Proc.devRef .tc r) := after_of_writes_sub _ _ condA_writes h

set_option maxRecDepth 8192 in
/-- The states before trip `k` of the first loop. -/
theorem tripsA (c : Dev nD) : ∀ k, (atTrip condA bodyA (entryA m) k c (Proc.devRef .tc main_v12_7), atTrip condA bodyA (entryA m) k c (Proc.devRef .tc main_v12_8))
      = steps (gA m c) 0 k (rZero, rZero)
  | 0 => by
    obtain ⟨-, -, -, -, -, -, e7, e8⟩ := entryA_eq m c
    rw [atTrip_zero, e7, e8]
    rfl
  | k + 1 => by
    obtain ⟨e0, e1, e2, e3, e4, e5, -, -⟩ := entryA_eq m c
    rw [atTrip_succ, aTrip]
    simp only [afterCondA _ (r := main_v12_0) (by decide +kernel), afterCondA _ (r := main_v12_1) (by decide +kernel), afterCondA _ (r := main_v12_2) (by decide +kernel),
      afterCondA _ (r := main_v12_3) (by decide +kernel), afterCondA _ (r := main_v12_4) (by decide +kernel), afterCondA _ (r := main_v12_5) (by decide +kernel),
      afterCondA _ (r := main_v12_6) (by decide +kernel), afterCondA _ (r := main_v12_7) (by decide +kernel), afterCondA _ (r := main_v12_8) (by decide +kernel)]
    rw [tripsA c k, counterA, keepA m c k (r := main_v12_0) (by decide +kernel), keepA m c k (r := main_v12_1) (by decide +kernel), keepA m c k (r := main_v12_2) (by decide +kernel),
      keepA m c k (r := main_v12_3) (by decide +kernel), keepA m c k (r := main_v12_4) (by decide +kernel), keepA m c k (r := main_v12_5) (by decide +kernel),
      e0, e1, e2, e3, e4, e5, steps, Nat.zero_add]
    rfl

/-- The states that the first loop leaves. -/
theorem leaveA_states (c : Dev nD) : (loopA.leave (entryA m) c (Proc.devRef .tc main_v12_7), loopA.leave (entryA m) c (Proc.devRef .tc main_v12_8))
      = steps (gA m c) 0 2048 (rZero, rZero) := by
  show (after condA (atTrip condA bodyA (entryA m) 2048 c) _, after condA (atTrip condA bodyA (entryA m) 2048 c) _) = _
  rw [afterCondA _ (by decide +kernel), afterCondA _ (by decide +kernel), tripsA]

/-- The steps of the second loop, numbered by its trips. -/
def gB (c : Dev nD) (n : ℕ) : Vec F S16x256 .f32 × Vec F S16x256 .f32 → Vec F S16x256 .f32 × Vec F S16x256 .f32 :=
  rAt (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (timeB n)

/-- The second loop begins with the arguments as they were. -/
theorem leaveA_arg (c : Dev nD) {r : Ref sig .tc} (h : r ∉ preOps_W ++ condA_W ++ headA_W ++ aNext_W) :
    loopA.leave (entryA m) c (Proc.devRef .tc r) = m ((c.tc : Thread nD τ).loc r) := by
  rw [List.mem_append, List.mem_append, List.mem_append] at h
  simp only [not_or] at h
  obtain ⟨⟨⟨h1, h2⟩, h3⟩, h4⟩ := h
  rw [leaveA_keep _ _ h2 h3 h4]
  exact after_of_writes_sub _ _ preOps_writes h1

/-- What the second loop begins with: the input, the mask, this direction's weights and biases, and zeros. -/
theorem entryB_eq (c : Dev nD) :
    entryB m c (Proc.devRef .tc main_v25_0) = rXs (m ((c.tc : Thread nD τ).loc main_arg0))
    ∧ entryB m c (Proc.devRef .tc main_v25_1) = rMask (m ((c.tc : Thread nD τ).loc main_arg1))
    ∧ entryB m c (Proc.devRef .tc main_v25_2) = (m ((c.tc : Thread nD τ).loc main_arg6))
    ∧ entryB m c (Proc.devRef .tc main_v25_3) = (m ((c.tc : Thread nD τ).loc main_arg7))
    ∧ entryB m c (Proc.devRef .tc main_v25_4) = (m ((c.tc : Thread nD τ).loc main_arg8))
    ∧ entryB m c (Proc.devRef .tc main_v25_5) = (m ((c.tc : Thread nD τ).loc main_arg9))
    ∧ entryB m c (Proc.devRef .tc main_v25_7) = rZero
    ∧ entryB m c (Proc.devRef .tc main_v25_8) = rZero := by
  rw [← leaveA_arg m c (r := main_arg0) (by decide +kernel)]
  rw [← leaveA_arg m c (r := main_arg1) (by decide +kernel)]
  rw [← leaveA_arg m c (r := main_arg6) (by decide +kernel)]
  rw [← leaveA_arg m c (r := main_arg7) (by decide +kernel)]
  rw [← leaveA_arg m c (r := main_arg8) (by decide +kernel)]
  rw [← leaveA_arg m c (r := main_arg9) (by decide +kernel)]
  simp only [entryB, afterL_cons, afterL_nil]
  generalize loopA.leave (entryA m) c = X
  refine ⟨?_, ?_, ?_, ?_, ?_, ?_, ?_, ?_⟩ <;>
  · after_reads_simp
    rfl

/-- What the second loop does not write is before every trip as at its entry. -/
theorem keepB (c : Dev nD) (k : ℕ) {r : Ref sig .tc} (h : r ∉ condB_W ++ headB_W ++ bNext_W) :
    atTrip condB bodyB (entryB m) k c (Proc.devRef .tc r) = entryB m c (Proc.devRef .tc r) := by
  rw [List.mem_append, List.mem_append] at h
  simp only [not_or] at h
  exact atTrip_keep condB_writes h.1.1 (fun V => bodyB_keep V h.1.2 h.2) _ c k

/-- What the second loop's condition does not write. -/
theorem afterCondB (V : Valuation τ sig (Elt F)) {r : Ref sig .tc} (h : r ∉ condB_W) :
    after condB V (Proc.devRef .tc r) = V (Proc.devRef .tc r) := after_of_writes_sub _ _ condB_writes h

set_option maxRecDepth 8192 in
/-- The states before trip `k` of the second loop. -/
theorem tripsB (c : Dev nD) : ∀ k, (atTrip condB bodyB (entryB m) k c (Proc.devRef .tc main_v25_7), atTrip condB bodyB (entryB m) k c (Proc.devRef .tc main_v25_8))
      = steps (gB m c) 0 k (rZero, rZero)
  | 0 => by
    obtain ⟨-, -, -, -, -, -, e7, e8⟩ := entryB_eq m c
    rw [atTrip_zero, e7, e8]
    rfl
  | k + 1 => by
    obtain ⟨e0, e1, e2, e3, e4, e5, -, -⟩ := entryB_eq m c
    rw [atTrip_succ, bTrip]
    simp only [afterCondB _ (r := main_v25_0) (by decide +kernel), afterCondB _ (r := main_v25_1) (by decide +kernel), afterCondB _ (r := main_v25_2) (by decide +kernel),
      afterCondB _ (r := main_v25_3) (by decide +kernel), afterCondB _ (r := main_v25_4) (by decide +kernel), afterCondB _ (r := main_v25_5) (by decide +kernel),
      afterCondB _ (r := main_v25_6) (by decide +kernel), afterCondB _ (r := main_v25_7) (by decide +kernel), afterCondB _ (r := main_v25_8) (by decide +kernel)]
    rw [tripsB c k, counterB, keepB m c k (r := main_v25_0) (by decide +kernel), keepB m c k (r := main_v25_1) (by decide +kernel), keepB m c k (r := main_v25_2) (by decide +kernel),
      keepB m c k (r := main_v25_3) (by decide +kernel), keepB m c k (r := main_v25_4) (by decide +kernel), keepB m c k (r := main_v25_5) (by decide +kernel),
      e0, e1, e2, e3, e4, e5, steps, Nat.zero_add]
    rfl

/-- The states that the second loop leaves. -/
theorem leaveB_states (c : Dev nD) : (loopB.leave (entryB m) c (Proc.devRef .tc main_v25_7), loopB.leave (entryB m) c (Proc.devRef .tc main_v25_8))
      = steps (gB m c) 0 2048 (rZero, rZero) := by
  show (after condB (atTrip condB bodyB (entryB m) 2048 c) _, after condB (atTrip condB bodyB (entryB m) 2048 c) _) = _
  rw [afterCondB _ (by decide +kernel), afterCondB _ (by decide +kernel), tripsB]

/-- The two directions' states side by side. -/
def rJoin (p q : Vec F S16x256 .f32 × Vec F S16x256 .f32) : Vec F S16x1024 .f32 :=
  concatenate S16x1024 1 [⟨S16x256, p.1⟩, ⟨S16x256, p.2⟩, ⟨S16x256, q.1⟩, ⟨S16x256, q.2⟩] concatenates_S16x256_S16x256_S16x256_S16x256_S16x1024_d1

/-- The first loop's states are still there when the second ends. -/
theorem leaveB_keepA (c : Dev nD) {r : Ref sig .tc} (h : r ∉ midOps_W ++ condB_W ++ headB_W ++ bNext_W) :
    loopB.leave (entryB m) c (Proc.devRef .tc r) = loopA.leave (entryA m) c (Proc.devRef .tc r) := by
  rw [List.mem_append, List.mem_append, List.mem_append] at h
  simp only [not_or] at h
  obtain ⟨⟨⟨h1, h2⟩, h3⟩, h4⟩ := h
  rw [leaveB_keep _ _ h2 h3 h4]
  exact after_of_writes_sub _ _ midOps_writes h1

/-- The operations after the loops lay the four states side by side. -/
theorem post_result (X : Valuation τ sig (Elt F)) : after postOps X (Proc.devRef .tc main_v26)
    = rJoin (X (Proc.devRef .tc main_v12_7), X (Proc.devRef .tc main_v12_8)) (X (Proc.devRef .tc main_v25_7), X (Proc.devRef .tc main_v25_8)) := by
  after_reads_simp
  rfl

/-- THE REFERENCE'S RESULT: the states after all steps of both directions. -/
theorem last_result (c : Dev nD) : last m c (Proc.devRef .tc main_v26)
    = rJoin (steps (gA m c) 0 2048 (rZero, rZero)) (steps (gB m c) 0 2048 (rZero, rZero)) := by
  have h := post_result (loopB.leave (entryB m) c)
  rw [leaveB_keepA m c (r := main_v12_7) (by decide +kernel), leaveB_keepA m c (r := main_v12_8) (by decide +kernel), leaveA_states, leaveB_states] at h
  simp only [last, afterL_cons, afterL_nil]
  exact h

end Cert.ReferenceIdeal.Two

end
-- ==== Proof.Equation.lean ====
/- At the extended reals one step of the kernel is one step of the reference. -/
module

public import proofs.«01_k».proof.Proof.Block
public import proofs.«01_k».proof.Proof.RefValue
public import Idealize.ShloMosaic.Lib.Pointwise

@[expose] public section

noncomputable section

namespace Cert.Equal

open Idealize.ShloMosaic Idealize.ShloMosaic.TcCoe
open Cert.KernelIdeal.Gen (kGates kCell kHid kStep steps HC rowF rowB k0_pay197 k0_pay198)
open Cert.KernelIdeal (k0_t1_loop)
open Cert.ReferenceIdeal.Two (rGates rSigmoid rCell rHid rPick rStep rRow rValid rXs rMask rZero rAt)

/-- The kernel's logistic operation is one over one plus the exponential of the negative. -/
theorem logistic_eq (v : FVec Ideal Cert.KernelIdeal.S16x256 .f32) : logistic v = rSigmoid v := by
  funext j
  idx_vars j
  unfold rSigmoid
  pointwise
  rfl

/-- The kernel's gates are the reference's, when the input's part `x` is the product with the input weights and the sum of
the two biases, and the recurrent weights are transposed. -/
theorem gates_eq (w : FVec Ideal Cert.KernelIdeal.S256x1024 .bf16) (x : Vec Ideal Cert.KernelIdeal.S16x1024 .f32)
    (wi : Vec Ideal Cert.ReferenceIdeal.S1024x512 .f32) (wh : Vec Ideal Cert.ReferenceIdeal.S1024x256 .f32)
    (bi bh : Vec Ideal Cert.ReferenceIdeal.S1024 .f32) (xr : Vec Ideal Cert.ReferenceIdeal.S16x512 .f32) (h : Vec Ideal Cert.KernelIdeal.S16x256 .f32)
    (hw : ∀ (d : Fin 256) (j : Fin 1024), w (ix2 d j) = wh (ix2 j d))
    (hx : ∀ (r : Fin 16) (j : Fin 1024), x (ix2 r j) = ((∑ d : Fin 512, (xr (ix2 r d) : EReal) * wi (ix2 j d)) + (bi (ix1 j) + bh (ix1 j)) : EReal)) :
    kGates w x h = rGates wi wh bi bh xr h := by
  funext i
  idx_vars i
  unfold kGates rGates
  pointwise
  rw [hx]
  simp only [hw]
  ac_nf

/-- One step of the kernel is one of the reference, when moreover the masks agree. -/
theorem step_eq (lens : IVec Cert.KernelIdeal.S16x256 32) (w : FVec Ideal Cert.KernelIdeal.S256x1024 .bf16) (t : BitVec 32) (x : Vec Ideal Cert.KernelIdeal.S16x1024 .f32)
    (wi : Vec Ideal Cert.ReferenceIdeal.S1024x512 .f32) (wh : Vec Ideal Cert.ReferenceIdeal.S1024x256 .f32)
    (bi bh : Vec Ideal Cert.ReferenceIdeal.S1024 .f32) (xr : Vec Ideal Cert.ReferenceIdeal.S16x512 .f32) (p : IVec Cert.ReferenceIdeal.S16x1 1) (s : HC Ideal)
    (hw : ∀ (d : Fin 256) (j : Fin 1024), w (ix2 d j) = wh (ix2 j d))
    (hx : ∀ (r : Fin 16) (j : Fin 1024), x (ix2 r j) = ((∑ d : Fin 512, (xr (ix2 r d) : EReal) * wi (ix2 j d)) + (bi (ix1 j) + bh (ix1 j)) : EReal))
    (hp : ∀ (r : Fin 16) (j : Fin 256), IntOp.cmpi .sgt (lens (ix2 r j)) t = p (ix2 r 0)) :
    kStep lens w t x s = rStep wi wh bi bh xr p s := by
  have hm : cmpi .sgt lens (broadcast Cert.KernelIdeal.S16x256 t) = broadcastInDim Cert.ReferenceIdeal.S16x256 ![0, 1] Cert.ReferenceIdeal.Gen.bcast_S16x1_S16x256_0_1 p := by
    funext j
    idx_vars j
    pointwise
    exact hp _ _
  have hg := gates_eq w x wi wh bi bh xr s.1 hw hx
  have hc : kCell w x s = rCell (rGates wi wh bi bh xr s.1) s.2 := by
    unfold kCell rCell
    simp only [logistic_eq, hg]
    rfl
  have hh : kHid w x s = rHid (extractStridedSlice Cert.ReferenceIdeal.S16x256 ![0, 768] (rGates wi wh bi bh xr s.1) Cert.ReferenceIdeal.Gen.slices_S16x1024_S16x256_0_768) (rCell (rGates wi wh bi bh xr s.1) s.2) := by
    unfold kHid rHid
    rw [hc]
    simp only [logistic_eq, hg]
    rfl
  unfold kStep rStep rPick
  rw [hm, hc, hh]

/-- A start of the reference's slice is the number that it holds. -/
theorem toInt_time (τ : ℕ) (h : τ < 2048) : (BitVec.ofNat 32 τ).toInt = τ := by
  rw [BitVec.toInt_eq_toNat_of_lt] <;> rw [BitVec.toNat_ofNat, Nat.mod_eq_of_lt (by omega)]
  omega

section Time

variable (τ : ℕ) (h : τ < 2048)

include h in
/-- Where the reference's slices of the input begin. -/
theorem starts_row (a : Fin 3) : Host.clampedStart Cert.ReferenceIdeal.S2048x16x512 Cert.ReferenceIdeal.S1x16x512 rfl
    (fun k => ((![fun _ => BitVec.ofNat 32 τ, constantI Cert.ReferenceIdeal.S_ 32 0#32, constantI Cert.ReferenceIdeal.S_ 32 0#32] : Fin 3 → Cert.ReferenceIdeal.S_.Idx → BitVec 32) k
      (Shape.Idx.first Cert.ReferenceIdeal.Gen.h_S_)).toInt) a = (![τ, 0, 0] : Fin 3 → ℕ) a := by
  refine Host.clampedStart_of_le _ _ _ _ ?_ ?_
  · match a with
    | 0 => exact toInt_time τ h
    | 1 => rfl
    | 2 => rfl
  · match a with
    | 0 => exact h
    | 1 => exact Nat.le_refl _
    | 2 => exact Nat.le_refl _

include h in
/-- Where the reference's slices of the mask begin. -/
theorem starts_valid (a : Fin 3) : Host.clampedStart Cert.ReferenceIdeal.S2048x16x1 Cert.ReferenceIdeal.S1x16x1 rfl
    (fun k => ((![fun _ => BitVec.ofNat 32 τ, constantI Cert.ReferenceIdeal.S_ 32 0#32, constantI Cert.ReferenceIdeal.S_ 32 0#32] : Fin 3 → Cert.ReferenceIdeal.S_.Idx → BitVec 32) k
      (Shape.Idx.first Cert.ReferenceIdeal.Gen.h_S_)).toInt) a = (![τ, 0, 0] : Fin 3 → ℕ) a := by
  refine Host.clampedStart_of_le _ _ _ _ ?_ ?_
  · match a with
    | 0 => exact toInt_time τ h
    | 1 => rfl
    | 2 => rfl
  · match a with
    | 0 => exact h
    | 1 => exact Nat.le_refl _
    | 2 => exact Nat.le_refl _

/-- The reference's rows at the time `τ`. -/
theorem row_at (x : Vec Ideal Cert.ReferenceIdeal.S16x2048x512 .f32) (r : Fin 16) (d : Fin 512) :
    rRow (rXs x) (fun _ => BitVec.ofNat 32 τ) (ix2 r d) = x (ix3 r ⟨τ, h⟩ d) := by
  unfold rRow rXs
  pointwise
  have h0 := starts_row τ h 0
  have h1 := starts_row τ h 1
  have h2 := starts_row τ h 2
  refine congrArg x ?_
  refine (congr (congr (congrArg ix3 (Fin.ext ?_)) (Fin.ext h0)) (Fin.ext ?_))
  · exact (congrArg (· + r.val) h1).trans (Nat.zero_add _)
  · exact (congrArg (· + d.val) h2).trans (Nat.zero_add _)

include h in
/-- The reference's mask at the time `τ`. -/
theorem valid_at (l : IVec Cert.ReferenceIdeal.S16 32) (r : Fin 16) :
    rValid (rMask l) (fun _ => BitVec.ofNat 32 τ) (ix2 r 0) = IntOp.cmpi .slt (BitVec.ofNat 32 τ) (l (ix1 r)) := by
  unfold rValid rMask
  pointwise
  have h0 := starts_valid τ h 0
  have h1 := starts_valid τ h 1
  congr 1
  · exact congrArg _ h0
  · congr 1
    congr 1
    exact Fin.ext ((congrArg (· + r.val) h1).trans (Nat.zero_add _))

end Time

open Cert.KernelIdeal (S64x16x512 S512x1024 S1x1024 S16x1024 S1024x1024 k0_off1 k0_off2)

/-- The kernel's input part for all steps of a forward block. -/
theorem partF_at (xb : Vec Ideal S64x16x512 .bf16) (w : Vec Ideal S512x1024 .bf16) (b : Vec Ideal S1x1024 .f32)
    (q : Fin 1024) (j : Fin 1024) : k0_pay197 xb w b (ix2 q j)
      = ((∑ d : Fin 512, (xb (ix3 ⟨q.val / 16, by omega⟩ ⟨q.val % 16, by omega⟩ d) : EReal) * w (ix2 d j)) + b (ix2 0 j) : EReal) := by
  pointwise [k0_pay197]

/-- The kernel's input part for all steps of a backward block. -/
theorem partB_at (xb : Vec Ideal S64x16x512 .bf16) (w : Vec Ideal S512x1024 .bf16) (b : Vec Ideal S1x1024 .f32)
    (q : Fin 1024) (j : Fin 1024) : k0_pay198 xb w b (ix2 q j)
      = ((∑ d : Fin 512, (xb (ix3 ⟨q.val / 16, by omega⟩ ⟨q.val % 16, by omega⟩ d) : EReal) * w (ix2 d j)) + b (ix2 0 j) : EReal) := by
  pointwise [k0_pay198]

/-- A window of sixteen whole rows reads the rows from its offset on. -/
theorem window_at (X : Vec Ideal S1024x1024 .f32) (off : Fin 2 → ℕ) (inb : ∀ a, off a + S16x1024.size a ≤ S1024x1024.size a) (q : ℕ) (hq : off = ![q, 0])
    (r : Fin 16) (j : Fin 1024) (h : q + r.val < 1024) : VecWindow.window X off S16x1024.size inb (ix2 r j) = X (ix2 ⟨q + r.val, h⟩ j) := by
  subst hq
  unfold VecWindow.window
  refine congrArg X ?_
  funext a
  refine Fin.ext ?_
  match a with
  | 0 => exact congrArg (q + ·) (Nat.one_mul _)
  | 1 => exact (Nat.zero_add _).trans (Nat.one_mul _)

/-- Where the rows of a forward step begin. -/
theorem off1_eq : ∀ (k : Fin k0_t1_loop.trips) (u : Fin 16), k0_off1 k (BitVec.ofNat 32 u.val) = ![16 * (16 * k.val + u.val), 0] := by decide +kernel

/-- Where the rows of a backward step begin. -/
theorem off2_eq : ∀ (k : Fin k0_t1_loop.trips) (u : Fin 16), k0_off2 k (BitVec.ofNat 32 u.val) = ![16 * (63 - (16 * k.val + u.val)), 0] := by decide +kernel

/-- The kernel's input part for a forward step. -/
theorem rowF_at (xb : Vec Ideal S64x16x512 .bf16) (w : Vec Ideal S512x1024 .bf16) (b : Vec Ideal S1x1024 .f32)
    (k : Fin k0_t1_loop.trips) (u : Fin 16) (n : Fin 64) (hn : n.val = 16 * k.val + u.val) (r : Fin 16) (j : Fin 1024) :
    rowF (k0_pay197 xb w b) k u (ix2 r j) = ((∑ d : Fin 512, (xb (ix3 n r d) : EReal) * w (ix2 d j)) + b (ix2 0 j) : EReal) := by
  unfold rowF
  rw [window_at _ _ _ _ (off1_eq k u) r j (by omega), partF_at]
  have h1 : (⟨(16 * (16 * k.val + u.val) + r.val) / 16, by omega⟩ : Fin 64) = n := Fin.ext (by show _ / 16 = _; omega)
  have h2 : (⟨(16 * (16 * k.val + u.val) + r.val) % 16, by omega⟩ : Fin 16) = r := Fin.ext (by show _ % 16 = _; omega)
  simp only [h1, h2]

/-- The kernel's input part for a backward step. -/
theorem rowB_at (xb : Vec Ideal S64x16x512 .bf16) (w : Vec Ideal S512x1024 .bf16) (b : Vec Ideal S1x1024 .f32)
    (k : Fin k0_t1_loop.trips) (u : Fin 16) (n : Fin 64) (hn : n.val = 63 - (16 * k.val + u.val)) (r : Fin 16) (j : Fin 1024) :
    rowB (k0_pay198 xb w b) k u (ix2 r j) = ((∑ d : Fin 512, (xb (ix3 n r d) : EReal) * w (ix2 d j)) + b (ix2 0 j) : EReal) := by
  unfold rowB
  rw [window_at _ _ _ _ (off2_eq k u) r j (by omega), partB_at]
  have h1 : (⟨(16 * (63 - (16 * k.val + u.val)) + r.val) / 16, by omega⟩ : Fin 64) = n := Fin.ext (by show _ / 16 = _; omega)
  have h2 : (⟨(16 * (63 - (16 * k.val + u.val)) + r.val) % 16, by omega⟩ : Fin 16) = r := Fin.ext (by show _ % 16 = _; omega)
  simp only [h1, h2]

end Cert.Equal

end
-- ==== Proof.Blocks.lean ====
/- What the kernel's blocks hold of the arguments, and the words that the kernel and the reference use for the time. -/
module

public import proofs.«01_k».proof.Proof.Equation
public import proofs.«01_k».proof.Proof.Gen.KernelIdeal.Value
public import Idealize.ShloMosaic.Lib.Claim

@[expose] public section

noncomputable section

namespace Cert.Equal

open Cert.KernelIdeal Cert.KernelIdeal.Gen
open Idealize.ShloMosaic Idealize.ShloMosaic.TcCoe

variable (m : (ℓ : Loc nD τ sig) → Buf (Elt Ideal) ℓ)

/-! ## Which block each point reads -/

/-- The forward input: point `t` reads block `t`. -/
theorem index0 : ∀ t : Fin cfg0.N, win0_0.index t (0 : Fin 3) = t.val ∧ win0_0.index t (1 : Fin 3) = 0 ∧ win0_0.index t (2 : Fin 3) = 0 :=
  (by decide +kernel : ∀ t : Fin grid0.N, _)

/-- The backward input: point `t` reads block `31 - t`. -/
theorem index1 : ∀ t : Fin cfg0.N, win0_1.index t (0 : Fin 3) = 31 - t.val ∧ win0_1.index t (1 : Fin 3) = 0 ∧ win0_1.index t (2 : Fin 3) = 0 :=
  (by decide +kernel : ∀ t : Fin grid0.N, _)

/-- Every other operand is one block. -/
theorem index_whole : ∀ t : Fin cfg0.N, (∀ a : Fin 2, win0_2.index t a = 0) ∧ (∀ a : Fin 2, win0_3.index t a = 0) ∧ (∀ a : Fin 2, win0_4.index t a = 0)
    ∧ (∀ a : Fin 2, win0_5.index t a = 0) ∧ (∀ a : Fin 2, win0_6.index t a = 0) ∧ (∀ a : Fin 2, win0_7.index t a = 0) ∧ (∀ a : Fin 2, win0_8.index t a = 0) :=
  (by decide +kernel : ∀ t : Fin grid0.N, _)

/-- Block zero of a window begins where its array does. -/
theorem from_zero {x n v : ℕ} (h : x = 0) : x * n + 1 * v = v := by rw [h, Nat.zero_mul, Nat.zero_add, Nat.one_mul]

/-! ## What the blocks hold -/

/-- The input as the kernel finds it: time first, cast. -/
theorem entry_input (c : Dev nD) : V m c main_v1 = transpose S2048x16x512 [1, 0, 2] (truncf (F := Ideal) .bf16 (m ((c : Thread nD τ).loc main_arg0)) bitsLt_bf16_f32) transposes_S16x2048x512_S2048x16x512_1_0_2 := by
  entry_read
  rfl

/-- The forward input at its step `n`, with the batch's row `r`. -/
theorem iblk0_at (c : Dev nD) (t : Fin cfg0.N) (n : Fin 64) (r : Fin 16) (d : Fin 512) (h : 64 * t.val + n.val < 2048) :
    (iblk m c 0 t : Vec Ideal S64x16x512 .bf16) (ix3 n r d) = m ((c : Thread nD τ).loc main_arg0) (ix3 r ⟨64 * t.val + n.val, h⟩ d) := by
  obtain ⟨h0, h1, h2⟩ := index0 t
  have e : ((cfg0.win 0).blk t).view.emb (ix3 n r d) = (ix3 ⟨64 * t.val + n.val, h⟩ r d : S2048x16x512.Idx) := by
    funext a
    apply Fin.ext
    match a with
    | ⟨0, _⟩ => show win0_0.index t 0 * 64 + 1 * n.val = 64 * t.val + n.val; rw [h0]; omega
    | ⟨1, _⟩ => show win0_0.index t 1 * 16 + 1 * r.val = r.val; rw [h1]; omega
    | ⟨2, _⟩ => show win0_0.index t 2 * 512 + 1 * d.val = d.val; rw [h2]; omega
  show V m c main_v1 (((cfg0.win 0).blk t).view.emb (ix3 n r d)) = _
  rw [e, entry_input]
  pointwise

/-- The backward input at its step `n`, with the batch's row `r`. -/
theorem iblk1_at (c : Dev nD) (t : Fin cfg0.N) (n : Fin 64) (r : Fin 16) (d : Fin 512) (h : 64 * (31 - t.val) + n.val < 2048) :
    (iblk m c 1 t : Vec Ideal S64x16x512 .bf16) (ix3 n r d) = m ((c : Thread nD τ).loc main_arg0) (ix3 r ⟨64 * (31 - t.val) + n.val, h⟩ d) := by
  obtain ⟨h0, h1, h2⟩ := index1 t
  have e : ((cfg0.win 1).blk t).view.emb (ix3 n r d) = (ix3 ⟨64 * (31 - t.val) + n.val, h⟩ r d : S2048x16x512.Idx) := by
    funext a
    apply Fin.ext
    match a with
    | ⟨0, _⟩ => show win0_1.index t 0 * 64 + 1 * n.val = 64 * (31 - t.val) + n.val; rw [h0]; omega
    | ⟨1, _⟩ => show win0_1.index t 1 * 16 + 1 * r.val = r.val; rw [h1]; omega
    | ⟨2, _⟩ => show win0_1.index t 2 * 512 + 1 * d.val = d.val; rw [h2]; omega
  show V m c main_v1 (((cfg0.win 1).blk t).view.emb (ix3 n r d)) = _
  rw [e, entry_input]
  pointwise

/-- The forward input weights, transposed. -/
theorem iblk2_at (c : Dev nD) (t : Fin cfg0.N) (d : Fin 512) (j : Fin 1024) :
    (iblk m c 2 t : Vec Ideal S512x1024 .bf16) (ix2 d j) = m ((c : Thread nD τ).loc main_arg2) (ix2 j d) := by
  have e : ((cfg0.win 2).blk t).view.emb (ix2 d j) = (ix2 d j : S512x1024.Idx) :=
    funext fun a => Fin.ext (from_zero ((index_whole t).1 a))
  have hv : V m c main_v3 = truncf (F := Ideal) .bf16 (transpose S512x1024 [1, 0] (m ((c : Thread nD τ).loc main_arg2)) transposes_S1024x512_S512x1024_1_0) bitsLt_bf16_f32 := by
    entry_read
    rfl
  show V m c main_v3 (((cfg0.win 2).blk t).view.emb (ix2 d j)) = _
  rw [e, hv]
  pointwise

/-- The backward input weights, transposed. -/
theorem iblk3_at (c : Dev nD) (t : Fin cfg0.N) (d : Fin 512) (j : Fin 1024) :
    (iblk m c 3 t : Vec Ideal S512x1024 .bf16) (ix2 d j) = m ((c : Thread nD τ).loc main_arg6) (ix2 j d) := by
  have e : ((cfg0.win 3).blk t).view.emb (ix2 d j) = (ix2 d j : S512x1024.Idx) :=
    funext fun a => Fin.ext (from_zero ((index_whole t).2.1 a))
  have hv : V m c main_v5 = truncf (F := Ideal) .bf16 (transpose S512x1024 [1, 0] (m ((c : Thread nD τ).loc main_arg6)) transposes_S1024x512_S512x1024_1_0) bitsLt_bf16_f32 := by
    entry_read
    rfl
  show V m c main_v5 (((cfg0.win 3).blk t).view.emb (ix2 d j)) = _
  rw [e, hv]
  pointwise

/-- The forward recurrent weights, transposed. -/
theorem iblk4_at (c : Dev nD) (t : Fin cfg0.N) (d : Fin 256) (j : Fin 1024) :
    (iblk m c 4 t : Vec Ideal S256x1024 .bf16) (ix2 d j) = m ((c : Thread nD τ).loc main_arg3) (ix2 j d) := by
  have e : ((cfg0.win 4).blk t).view.emb (ix2 d j) = (ix2 d j : S256x1024.Idx) :=
    funext fun a => Fin.ext (from_zero ((index_whole t).2.2.1 a))
  have hv : V m c main_v7 = truncf (F := Ideal) .bf16 (transpose S256x1024 [1, 0] (m ((c : Thread nD τ).loc main_arg3)) transposes_S1024x256_S256x1024_1_0) bitsLt_bf16_f32 := by
    entry_read
    rfl
  show V m c main_v7 (((cfg0.win 4).blk t).view.emb (ix2 d j)) = _
  rw [e, hv]
  pointwise

/-- The backward recurrent weights, transposed. -/
theorem iblk5_at (c : Dev nD) (t : Fin cfg0.N) (d : Fin 256) (j : Fin 1024) :
    (iblk m c 5 t : Vec Ideal S256x1024 .bf16) (ix2 d j) = m ((c : Thread nD τ).loc main_arg7) (ix2 j d) := by
  have e : ((cfg0.win 5).blk t).view.emb (ix2 d j) = (ix2 d j : S256x1024.Idx) :=
    funext fun a => Fin.ext (from_zero ((index_whole t).2.2.2.1 a))
  have hv : V m c main_v9 = truncf (F := Ideal) .bf16 (transpose S256x1024 [1, 0] (m ((c : Thread nD τ).loc main_arg7)) transposes_S1024x256_S256x1024_1_0) bitsLt_bf16_f32 := by
    entry_read
    rfl
  show V m c main_v9 (((cfg0.win 5).blk t).view.emb (ix2 d j)) = _
  rw [e, hv]
  pointwise

/-- The sum of the two forward biases. -/
theorem iblk6_at (c : Dev nD) (t : Fin cfg0.N) (j : Fin 1024) :
    (iblk m c 6 t : Vec Ideal S1x1024 .f32) (ix2 0 j) = addf (F := Ideal) (s := S1024) (φ := .f32) (m ((c : Thread nD τ).loc main_arg4)) (m ((c : Thread nD τ).loc main_arg5)) (ix1 j) := by
  have e : ((cfg0.win 6).blk t).view.emb (ix2 0 j) = (ix2 0 j : S1x1024.Idx) :=
    funext fun a => Fin.ext (from_zero ((index_whole t).2.2.2.2.1 a))
  have hv : V m c main_v11 = shapeCast S1x1024 (addf (F := Ideal) (φ := .f32) (m ((c : Thread nD τ).loc main_arg4)) (m ((c : Thread nD τ).loc main_arg5))) shapeCasts_S1024_S1x1024 := by
    entry_read
    rfl
  show V m c main_v11 (((cfg0.win 6).blk t).view.emb (ix2 0 j)) = _
  rw [e, hv]
  pointwise

/-- The sum of the two backward biases. -/
theorem iblk7_at (c : Dev nD) (t : Fin cfg0.N) (j : Fin 1024) :
    (iblk m c 7 t : Vec Ideal S1x1024 .f32) (ix2 0 j) = addf (F := Ideal) (s := S1024) (φ := .f32) (m ((c : Thread nD τ).loc main_arg8)) (m ((c : Thread nD τ).loc main_arg9)) (ix1 j) := by
  have e : ((cfg0.win 7).blk t).view.emb (ix2 0 j) = (ix2 0 j : S1x1024.Idx) :=
    funext fun a => Fin.ext (from_zero ((index_whole t).2.2.2.2.2.1 a))
  have hv : V m c main_v13 = shapeCast S1x1024 (addf (F := Ideal) (φ := .f32) (m ((c : Thread nD τ).loc main_arg8)) (m ((c : Thread nD τ).loc main_arg9))) shapeCasts_S1024_S1x1024 := by
    entry_read
    rfl
  show V m c main_v13 (((cfg0.win 7).blk t).view.emb (ix2 0 j)) = _
  rw [e, hv]
  pointwise

/-- The lengths, one per row. -/
theorem iblk8_at (c : Dev nD) (t : Fin cfg0.N) (r : Fin 16) (j : Fin 256) :
    (iblk m c 8 t : Vec Ideal S16x256 .i32) (ix2 r j) = m ((c : Thread nD τ).loc main_arg1) (ix1 r) := by
  have e : ((cfg0.win 8).blk t).view.emb (ix2 r j) = (ix2 r j : S16x256.Idx) :=
    funext fun a => Fin.ext (from_zero ((index_whole t).2.2.2.2.2.2 a))
  have hv : V m c main_v15 = broadcastInDim S16x256 ![0, 1] bcast_S16x1_S16x256_0_1 (broadcastInDim S16x1 ![0] bcast_S16_S16x1_0 (m ((c : Thread nD τ).loc main_arg1))) := by
    entry_read
    rfl
  show V m c main_v15 (((cfg0.win 8).blk t).view.emb (ix2 r j)) = _
  rw [e, hv]
  pointwise

/-! ## The times -/

/-- A point's only coordinate is its number. -/
theorem coords_val : ∀ t : Fin cfg0.N, (grid0.coords t 0).val = t.val := (by decide +kernel : ∀ t : Fin grid0.N, _)

/-- The time of a forward step in the kernel. -/
theorem timeF : ∀ (t : Fin 32) (k : Fin k0_t1_loop.trips) (u : Fin 16), Scalar.addi (Scalar.muli (BitVec.ofNat 32 t.val) 64#32) (subNo k u)
    = BitVec.ofNat 32 (64 * t.val + (16 * k.val + u.val)) := by decide +kernel

/-- The time of a backward step in the kernel. -/
theorem timeBk : ∀ (t : Fin 32) (k : Fin k0_t1_loop.trips) (u : Fin 16), Scalar.addi (Scalar.muli (Scalar.subi 31#32 (BitVec.ofNat 32 t.val)) 64#32) (Scalar.subi 63#32 (subNo k u))
    = BitVec.ofNat 32 (2047 - (64 * t.val + (16 * k.val + u.val))) := by decide +kernel

open Cert.ReferenceIdeal.Two (timeA timeB)

/-- The time of the reference's forward trip `n`. -/
theorem timeA_eq (n : ℕ) : timeA n = fun _ => BitVec.ofNat 32 n := by
  funext i
  show 0#32 + BitVec.ofNat 32 n * 1#32 = _
  simp

/-- The time of the reference's backward trip `n`. -/
theorem timeB_eq (n : ℕ) (h : n < 2048) : timeB n = fun _ => BitVec.ofNat 32 (2047 - n) := by
  have e : ∀ n : Fin 2048, IntOp.subi (IntOp.subi 2048#32 (Scf.iv 0#32 1#32 n.val)) 1#32 = BitVec.ofNat 32 (2047 - n.val) := by decide +kernel
  funext i
  exact e ⟨n, h⟩

end Cert.Equal

end
-- ==== Proof.Fold.lean ====
/- The kernel's result: the states after the reference's steps, on the kernel's arguments. -/
module

public import proofs.«01_k».proof.Proof.Blocks

@[expose] public section

noncomputable section

namespace Cert.Equal

open Cert.KernelIdeal Cert.KernelIdeal.Gen Cert.KernelIdeal.Value
open Idealize.ShloMosaic Idealize.ShloMosaic.TcCoe
open Cert.ReferenceIdeal.Two (rAt rZero rJoin timeA timeB)

variable (m : (ℓ : Loc nD τ sig) → Buf (Elt Ideal) ℓ)

/-- The reference's forward step `n` on the kernel's arguments. -/
def kA (c : Dev nD) (n : ℕ) : HC Ideal → HC Ideal :=
  rAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (timeA n)

/-- At every point the kernel's forward steps are the reference's. -/
theorem kA_step (c : Dev nD) (t : Fin cfg0.N) (k : Fin k0_t1_loop.trips) (u : Fin 16) (s : HC Ideal) :
    kStep (iblk m c 8 t) (iblk m c 4 t) (Scalar.addi (Scalar.muli (BitVec.ofNat 32 (grid0.coords t 0).val) 64#32) (subNo k u))
      (rowF (k0_pay197 (iblk m c 0 t) (iblk m c 2 t) (iblk m c 6 t)) k u) s = kA m c (64 * t.val + (16 * k.val + u.val)) s := by
  have ht : t.val < 32 := lt_of_lt_of_eq t.isLt N_0
  have hk : k.val < 4 := k.isLt
  have hu : u.val < 16 := u.isLt
  have hτ : 64 * t.val + (16 * k.val + u.val) < 2048 := by omega
  unfold kA rAt
  rw [timeA_eq, coords_val, timeF ⟨t.val, ht⟩ k u]
  refine step_eq _ _ _ _ _ _ _ _ _ _ _ ?_ ?_ ?_
  · intro d j
    exact iblk4_at m c t d j
  · intro r j
    rw [rowF_at _ _ _ k u ⟨16 * k.val + u.val, by omega⟩ rfl r j, iblk6_at]
    refine congrArg₂ _ (Finset.sum_congr rfl fun d _ => ?_) rfl
    rw [iblk0_at m c t _ r d hτ, iblk2_at, row_at _ hτ]
  · intro r j
    rw [iblk8_at, valid_at _ hτ]
    rfl

/-- The reference's backward step `n` on the kernel's arguments. -/
def kB (c : Dev nD) (n : ℕ) : HC Ideal → HC Ideal :=
  rAt (m ((c : Thread nD τ).loc main_arg0)) (m ((c : Thread nD τ).loc main_arg1)) (m ((c : Thread nD τ).loc main_arg6)) (m ((c : Thread nD τ).loc main_arg7)) (m ((c : Thread nD τ).loc main_arg8)) (m ((c : Thread nD τ).loc main_arg9)) (timeB n)

/-- At every point the kernel's backward steps are the reference's. -/
theorem kB_step (c : Dev nD) (t : Fin cfg0.N) (k : Fin k0_t1_loop.trips) (u : Fin 16) (s : HC Ideal) :
    kStep (iblk m c 8 t) (iblk m c 5 t) (Scalar.addi (Scalar.muli (Scalar.subi 31#32 (BitVec.ofNat 32 (grid0.coords t 0).val)) 64#32) (Scalar.subi 63#32 (subNo k u)))
      (rowB (k0_pay198 (iblk m c 1 t) (iblk m c 3 t) (iblk m c 7 t)) k u) s = kB m c (64 * t.val + (16 * k.val + u.val)) s := by
  have ht : t.val < 32 := lt_of_lt_of_eq t.isLt N_0
  have hk : k.val < 4 := k.isLt
  have hu : u.val < 16 := u.isLt
  have hτ : 2047 - (64 * t.val + (16 * k.val + u.val)) < 2048 := by omega
  have hn : 64 * (31 - t.val) + (63 - (16 * k.val + u.val)) < 2048 := by omega
  have he : 64 * (31 - t.val) + (63 - (16 * k.val + u.val)) = 2047 - (64 * t.val + (16 * k.val + u.val)) := by omega
  unfold kB rAt
  rw [timeB_eq _ (by omega), coords_val, timeBk ⟨t.val, ht⟩ k u]
  refine step_eq _ _ _ _ _ _ _ _ _ _ _ ?_ ?_ ?_
  · intro d j
    exact iblk5_at m c t d j
  · intro r j
    rw [rowB_at _ _ _ k u ⟨63 - (16 * k.val + u.val), by omega⟩ rfl r j, iblk7_at]
    refine congrArg₂ _ (Finset.sum_congr rfl fun d _ => ?_) rfl
    rw [iblk1_at m c t _ r d hn, iblk3_at, row_at _ hτ]
    simp only [he]
  · intro r j
    rw [iblk8_at, valid_at _ hτ]
    rfl

/-- Both directions' states before the first step. -/
abbrev zeros : HC Ideal := (rZero, rZero)

/-- What a point leaves, from what it finds in the scratch buffer. -/
abbrev point (c : Dev nD) (t : ℕ) (X : Vec Ideal S16x1024 .f32) : Vec Ideal S16x1024 .f32 :=
  join (steps (kA m c) (64 * t) 64 (partF X)) (steps (kB m c) (64 * t) 64 (partB X))

/-- The first point begins from zeros. -/
theorem point_first (c : Dev nD) (t : Fin cfg0.N) (acc : Vec Ideal S16x1024 .f32 × Vec Ideal S16x1024 .f32) (h0 : t.val % 32 = 0) (h1 : ¬t.val % 32 = 31) :
    (stAt0 m c t.val t.isLt acc).2 = point m c t.val (k0_pay199 (F := Ideal)) := by
  rw [stAt0_A m c t acc h0 h1]
  dsimp only
  unfold point
  rw [sout0_A_2_eq (a := 64 * t.val) (gF := kA m c) (gB := kB m c)]
  · exact kA_step m c t
  · exact kB_step m c t

/-- Every other point begins from what the one before left. -/
theorem point_next (c : Dev nD) (t : Fin cfg0.N) (acc : Vec Ideal S16x1024 .f32 × Vec Ideal S16x1024 .f32) (h0 : ¬t.val % 32 = 0) :
    (stAt0 m c t.val t.isLt acc).2 = point m c t.val acc.2 := by
  by_cases h1 : t.val % 32 = 31
  · rw [stAt0_C m c t acc h0 h1]
    dsimp only
    unfold point
    rw [sout0_C_2_eq (a := 64 * t.val) (gF := kA m c) (gB := kB m c)]
    · exact kA_step m c t
    · exact kB_step m c t
  · rw [stAt0_B m c t acc h0 h1]
    dsimp only
    unfold point
    rw [sout0_B_2_eq (a := 64 * t.val) (gF := kA m c) (gB := kB m c)]
    · exact kA_step m c t
    · exact kB_step m c t

/-- The last point's result is what it leaves in the scratch buffer. -/
theorem point_last (c : Dev nD) (t : Fin cfg0.N) (acc : Vec Ideal S16x1024 .f32 × Vec Ideal S16x1024 .f32) (h1 : t.val % 32 = 31) :
    (stAt0 m c t.val t.isLt acc).1 = point m c t.val acc.2 := by
  have h0 : ¬t.val % 32 = 0 := by omega
  rw [stAt0_C m c t acc h0 h1]
  dsimp only
  unfold point
  rw [out0_C_9_eq (a := 64 * t.val) (gF := kA m c) (gB := kB m c)]
  · exact kA_step m c t
  · exact kB_step m c t

/-- The forward states are read back from where they were laid. -/
theorem partF_join (p q : HC Ideal) : partF (join p q) = p := by
  refine Prod.ext ?_ ?_ <;>
  · funext j
    idx_vars j
    unfold partF join
    pointwise [k0_pay7]

/-- The backward states are read back from where they were laid. -/
theorem partB_join (p q : HC Ideal) : partB (join p q) = q := by
  refine Prod.ext ?_ ?_ <;>
  · funext j
    idx_vars j
    unfold partB join
    pointwise [k0_pay7]
    split_ifs <;> first
      | omega
      | exact congrArg _ (congrArg (ix2 j0) (Fin.ext (by dsimp only; omega)))

/-- The zeros that the first point stores. -/
theorem part_zero : partF (k0_pay199 (F := Ideal)) = zeros ∧ partB (k0_pay199 (F := Ideal)) = zeros := by
  refine ⟨Prod.ext ?_ ?_, Prod.ext ?_ ?_⟩ <;>
  · funext j
    idx_vars j
    unfold rZero
    first | unfold partF | unfold partB
    pointwise [k0_pay199]

/-- The states after `n` steps of both directions, laid side by side. -/
abbrev after (c : Dev nD) (n : ℕ) : Vec Ideal S16x1024 .f32 := join (steps (kA m c) 0 n zeros) (steps (kB m c) 0 n zeros)

/-- A point makes its 64 steps after those of the points before it. -/
theorem point_after (c : Dev nD) (t : ℕ) : point m c t (after m c (64 * t)) = after m c (64 * (t + 1)) := by
  unfold point after
  rw [partF_join, partB_join, Nat.mul_succ, steps_add, steps_add, Nat.zero_add]

/-- The scratch buffer after point `j`. -/
theorem scratch_after (c : Dev nD) : ∀ (j : ℕ) (h : 0 + j < cfg0.N),
    (Pipeline.accAt (fun n h => stAt0 m c n h junk0) (stAt0 m c) 0 j h).2 = after m c (64 * (j + 1))
  | 0, h => by
    rw [Pipeline.accAt_zero, point_first m c ⟨0, h⟩ _ rfl (by show ¬0 % 32 = 31; decide)]
    unfold point
    rw [part_zero.1, part_zero.2]
    rfl
  | j + 1, h => by
    have hN := lt_of_lt_of_eq h (show cfg0.N = 32 from N_0)
    rw [Pipeline.accAt_succ, point_next m c ⟨0 + (j + 1), h⟩ _ (by show ¬(0 + (j + 1)) % 32 = 0; omega), scratch_after c j]
    show point m c (0 + (j + 1)) _ = _
    rw [Nat.zero_add, point_after]

/-- THE KERNEL'S RESULT: the states after all 2048 steps of both directions. -/
theorem result_eq (c : Dev nD) : G9 m c = rJoin (steps (kA m c) 0 2048 zeros) (steps (kB m c) 0 2048 zeros) := by
  rw [G9_last, Pipeline.accAt_succ, point_last m c ⟨0 + (30 + 1), lt_of_lt_of_eq (by decide) N_0.symm⟩ _ rfl, scratch_after m c 30]
  show point m c 31 (after m c (64 * 31)) = _
  rw [point_after]
  show join _ _ = rJoin _ _
  generalize steps (kA m c) 0 2048 zeros = p
  generalize steps (kB m c) 0 2048 zeros = q
  unfold join rJoin
  funext j
  idx_vars j
  pointwise [k0_pay7]

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefFrame
public import proofs.«01_k».proof.Proof.Fold
public import Idealize.ShloMosaic.Adequacy
public import Idealize.ShloMosaic.Init

@[expose] public section

noncomputable section

namespace Cert.Proof

open Idealize.ShloMosaic Idealize.SL.Sem Cert.Kernel

/-- The kernel's result is the reference's: both are the states after the same 2048 steps of each direction. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => Cert.KernelIdeal.Value.G9 m c, Cert.KernelIdeal.Value.run (F := Ideal) m g, ?_⟩
  refine (θ_run Cert.ReferenceIdeal.defs _ _).mono (fun _ h c => ⟨(h.1 c).1.trans ((Cert.ReferenceIdeal.Two.last_result m' c).trans ?_), (h.1 c).2⟩)
    (Cert.ReferenceIdeal.Two.run_args m' g')
  obtain ⟨h0, h1, h2, h3, h4, h5, h6, h7, h8, h9⟩ := hagree c
  have hA : Cert.ReferenceIdeal.Two.gA m' c = Cert.Equal.kA m c := by
    unfold Cert.ReferenceIdeal.Two.gA Cert.Equal.kA
    rw [h0, h1, h2, h3, h4, h5]
  have hB : Cert.ReferenceIdeal.Two.gB m' c = Cert.Equal.kB m c := by
    unfold Cert.ReferenceIdeal.Two.gB Cert.Equal.kB
    rw [h0, h1, h6, h7, h8, h9]
  rw [hA, hB]
  exact (Cert.Equal.result_eq m c).symm

/-- Every claim: the three programs run and leave their arguments as they were, and the kernel computes the reference's result over the extended reals. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, Cert.ReferenceIdeal.Two.frame, trivial, algebraic⟩

end Cert.Proof

end
